-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 256]⟩ ⟨2, ![4096, 4096]⟩ 1 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![256, 2048]⟩ ⟨2, ![4096, 2048]⟩ 0 16 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![256, 2048]⟩ ⟨2, ![4096, 2048]⟩ 0 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x256 : Shape := ⟨2, ![4096, 256]⟩
abbrev S256x2048 : Shape := ⟨2, ![256, 2048]⟩
abbrev S1 : Shape := ⟨1, ![1]⟩
abbrev S4096x2048 : Shape := ⟨2, ![4096, 2048]⟩
abbrev S16x2x256x512 : Shape := ⟨4, ![16, 2, 256, 512]⟩
abbrev S15x2 : Shape := ⟨2, ![15, 2]⟩
abbrev S_ : Shape := ⟨0, ![]⟩
abbrev S256x256 : Shape := ⟨2, ![256, 256]⟩
abbrev S256x512 : Shape := ⟨2, ![256, 512]⟩
abbrev S1x1x256x512 : Shape := ⟨4, ![1, 1, 256, 512]⟩
abbrev S1x1 : Shape := ⟨2, ![1, 1]⟩

abbrev nBuf : Space → Nat
  | .hbm => 5
  | .vmem => 6
  | .smem => 2
  | _ => 0

abbrev bufTy : (tb : Table) → Fin (tcTables nBuf tb) → BufTy
  | .hbm, ⟨0, _⟩ => ⟨S4096x256, .fp8e4m3⟩
  | .hbm, ⟨1, _⟩ => ⟨S256x2048, .fp8e5m2⟩
  | .hbm, ⟨2, _⟩ => ⟨S1, .f32⟩
  | .hbm, ⟨3, _⟩ => ⟨S1, .f32⟩
  | .hbm, ⟨4, _⟩ => ⟨S256x2048, .f32⟩
  | .local _ .vmem, ⟨0, _⟩ => ⟨S4096x256, .fp8e4m3⟩
  | .local _ .vmem, ⟨1, _⟩ => ⟨S256x2048, .fp8e5m2⟩
  | .local _ .vmem, ⟨2, _⟩ => ⟨S256x2048, .f32⟩
  | .local _ .vmem, ⟨3, _⟩ => ⟨S4096x2048, .bf16⟩
  | .local _ .vmem, ⟨4, _⟩ => ⟨S16x2x256x512, .bf16⟩
  | .local _ .vmem, ⟨5, _⟩ => ⟨S16x2x256x512, .bf16⟩
  | .local _ .smem, ⟨0, _⟩ => ⟨S1, .f32⟩
  | .local _ .smem, ⟨1, _⟩ => ⟨S1, .f32⟩
  | _, _ => ⟨S4096x256, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .smem, ⟨0, _⟩ => true
  | .smem, ⟨1, _⟩ => true
  | _, _ => false

abbrev semScoped : Fin 1 → Bool
  | ⟨0, _⟩ => false
  | _ => false

abbrev dmaSemScoped : Fin 125 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | ⟨102, _⟩ => true
  | ⟨103, _⟩ => true
  | ⟨104, _⟩ => true
  | ⟨105, _⟩ => true
  | ⟨106, _⟩ => true
  | ⟨107, _⟩ => true
  | ⟨108, _⟩ => true
  | ⟨109, _⟩ => true
  | ⟨110, _⟩ => true
  | ⟨111, _⟩ => true
  | ⟨112, _⟩ => true
  | ⟨113, _⟩ => true
  | ⟨114, _⟩ => true
  | ⟨115, _⟩ => true
  | ⟨116, _⟩ => true
  | ⟨117, _⟩ => true
  | ⟨118, _⟩ => true
  | ⟨119, _⟩ => true
  | ⟨120, _⟩ => true
  | ⟨121, _⟩ => true
  | ⟨122, _⟩ => true
  | ⟨123, _⟩ => true
  | ⟨124, _⟩ => true
  | _ => false

abbrev sig : RefSig :=
  (ofTc nBuf bufTy 1 125 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg4_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_stg2_0 : Ref sig .tc := ⟨.smem, 0, rfl⟩
abbrev cc0_stg3_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_6 : BitVec 32 := 1#32
  let v9 : BitVec 32 := Scalar.muli v5 c1_i32_6
  let v10 : BitVec 32 := Scalar.addi c0_i32 v9
  v10.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_8 : BitVec 32 := 1#32
  let v11 : BitVec 32 := Scalar.muli v7 c1_i32_8
  let v12 : BitVec 32 := Scalar.addi c0_i32_9 v11
  v12.toNat
def k0_off1 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_11 : BitVec 32 := 1#32
  let v16 : BitVec 32 := Scalar.subi v2 c1_i32_11
  let c16_i32_12 : BitVec 32 := 16#32
  let v17 : BitVec 32 := Scalar.addi v16 c16_i32_12
  let c16_i32_13 : BitVec 32 := 16#32
  let v18 : BitVec 32 := Scalar.remsi v17 c16_i32_13
  let c256_i32 : BitVec 32 := 256#32
  let v21 : BitVec 32 := Scalar.muli v18 c256_i32
  let v22 : Index := Scalar.indexCast v21
  let c0_16 : Index := 0#32
  ![v22.toNat, 0]
def k0_off2 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_14 : BitVec 32 := 1#32
  let v19 : BitVec 32 := Scalar.addi v2 c1_i32_14
  let c16_i32_15 : BitVec 32 := 16#32
  let v20 : BitVec 32 := Scalar.remsi v19 c16_i32_15
  let c256_i32_21 : BitVec 32 := 256#32
  let v32 : BitVec 32 := Scalar.muli v20 c256_i32_21
  let v33 : Index := Scalar.indexCast v32
  let c0_22 : Index := 0#32
  ![v33.toNat, 0]
def k0_dev3 (d0 : Dev nD) : Nat :=
  let c0_i32_50 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_49 : BitVec 32 := 1#32
  let v65 : BitVec 32 := Scalar.muli v7 c1_i32_49
  let v66 : BitVec 32 := Scalar.addi c0_i32_50 v65
  v66.toNat
def k0_dev4 (d0 : Dev nD) : Nat :=
  let c0_i32_64 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_63 : BitVec 32 := 1#32
  let v75 : BitVec 32 := Scalar.muli v5 c1_i32_63
  let v76 : BitVec 32 := Scalar.addi c0_i32_64 v75
  v76.toNat
def k0_dev5 (d0 : Dev nD) : Nat :=
  let c0_i32_78 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_77 : BitVec 32 := 1#32
  let v85 : BitVec 32 := Scalar.muli v7 c1_i32_77
  let v86 : BitVec 32 := Scalar.addi c0_i32_78 v85
  v86.toNat
def k0_dev6 (d0 : Dev nD) : Nat :=
  let c0_i32_92 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_91 : BitVec 32 := 1#32
  let v95 : BitVec 32 := Scalar.muli v5 c1_i32_91
  let v96 : BitVec 32 := Scalar.addi c0_i32_92 v95
  v96.toNat
def k0_off3 (d0 : Dev nD) (c1_i32_102 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v113 : BitVec 32 := Scalar.subi v2 c1_i32_102
  let c1_i32_103 : BitVec 32 := 1#32
  let v114 : BitVec 32 := Scalar.subi v113 c1_i32_103
  let c16_i32_104 : BitVec 32 := 16#32
  let v115 : BitVec 32 := Scalar.addi v114 c16_i32_104
  let c16_i32_105 : BitVec 32 := 16#32
  let v116 : BitVec 32 := Scalar.remsi v115 c16_i32_105
  let c256_i32_127 : BitVec 32 := 256#32
  let v131 : BitVec 32 := Scalar.muli v116 c256_i32_127
  let v132 : Index := Scalar.indexCast v131
  let c0_128 : Index := 0#32
  ![v132.toNat, 0]
def k0_off4 (d0 : Dev nD) (c1_i32_106 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v117 : BitVec 32 := Scalar.addi v2 c1_i32_106
  let c1_i32_107 : BitVec 32 := 1#32
  let v118 : BitVec 32 := Scalar.addi v117 c1_i32_107
  let c16_i32_108 : BitVec 32 := 16#32
  let v119 : BitVec 32 := Scalar.remsi v118 c16_i32_108
  let c256_i32_151 : BitVec 32 := 256#32
  let v151 : BitVec 32 := Scalar.muli v119 c256_i32_151
  let v152 : Index := Scalar.indexCast v151
  let c1024 : Index := 1024#32
  ![v152.toNat, 1024]
def k0_dev7 (d0 : Dev nD) : Nat :=
  let c0_i32_165 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_164 : BitVec 32 := 1#32
  let v160 : BitVec 32 := Scalar.muli v7 c1_i32_164
  let v161 : BitVec 32 := Scalar.addi c0_i32_165 v160
  v161.toNat
def k0_dev8 (d0 : Dev nD) : Nat :=
  let c0_i32_179 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_178 : BitVec 32 := 1#32
  let v170 : BitVec 32 := Scalar.muli v5 c1_i32_178
  let v171 : BitVec 32 := Scalar.addi c0_i32_179 v170
  v171.toNat
def k0_off5 (d0 : Dev nD) (c1_i32_102 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v113 : BitVec 32 := Scalar.subi v2 c1_i32_102
  let c1_i32_103 : BitVec 32 := 1#32
  let v114 : BitVec 32 := Scalar.subi v113 c1_i32_103
  let c16_i32_104 : BitVec 32 := 16#32
  let v115 : BitVec 32 := Scalar.addi v114 c16_i32_104
  let c16_i32_105 : BitVec 32 := 16#32
  let v116 : BitVec 32 := Scalar.remsi v115 c16_i32_105
  let c256_i32_202 : BitVec 32 := 256#32
  let v191 : BitVec 32 := Scalar.muli v116 c256_i32_202
  let v192 : Index := Scalar.indexCast v191
  let c512 : Index := 512#32
  ![v192.toNat, 512]
def k0_off6 (d0 : Dev nD) (c1_i32_106 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v117 : BitVec 32 := Scalar.addi v2 c1_i32_106
  let c1_i32_107 : BitVec 32 := 1#32
  let v118 : BitVec 32 := Scalar.addi v117 c1_i32_107
  let c16_i32_108 : BitVec 32 := 16#32
  let v119 : BitVec 32 := Scalar.remsi v118 c16_i32_108
  let c256_i32_225 : BitVec 32 := 256#32
  let v211 : BitVec 32 := Scalar.muli v119 c256_i32_225
  let v212 : Index := Scalar.indexCast v211
  let c1536 : Index := 1536#32
  ![v212.toNat, 1536]
def k0_dev9 (d0 : Dev nD) : Nat :=
  let c0_i32_239 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_238 : BitVec 32 := 1#32
  let v220 : BitVec 32 := Scalar.muli v7 c1_i32_238
  let v221 : BitVec 32 := Scalar.addi c0_i32_239 v220
  v221.toNat
def k0_dev10 (d0 : Dev nD) : Nat :=
  let c0_i32_253 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_252 : BitVec 32 := 1#32
  let v230 : BitVec 32 := Scalar.muli v5 c1_i32_252
  let v231 : BitVec 32 := Scalar.addi c0_i32_253 v230
  v231.toNat
def k0_dev11 (d0 : Dev nD) : Nat :=
  let c0_i32_320 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_319 : BitVec 32 := 1#32
  let v287 : BitVec 32 := Scalar.muli v7 c1_i32_319
  let v288 : BitVec 32 := Scalar.addi c0_i32_320 v287
  v288.toNat
def k0_dev12 (d0 : Dev nD) : Nat :=
  let c0_i32_334 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_333 : BitVec 32 := 1#32
  let v297 : BitVec 32 := Scalar.muli v5 c1_i32_333
  let v298 : BitVec 32 := Scalar.addi c0_i32_334 v297
  v298.toNat
def k0_dev13 (d0 : Dev nD) : Nat :=
  let c0_i32_396 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_395 : BitVec 32 := 1#32
  let v347 : BitVec 32 := Scalar.muli v7 c1_i32_395
  let v348 : BitVec 32 := Scalar.addi c0_i32_396 v347
  v348.toNat
def k0_dev14 (d0 : Dev nD) : Nat :=
  let c0_i32_410 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_409 : BitVec 32 := 1#32
  let v357 : BitVec 32 := Scalar.muli v5 c1_i32_409
  let v358 : BitVec 32 := Scalar.addi c0_i32_410 v357
  v358.toNat
def k0_dev15 (d0 : Dev nD) : Nat :=
  let c0_i32_477 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_476 : BitVec 32 := 1#32
  let v414 : BitVec 32 := Scalar.muli v7 c1_i32_476
  let v415 : BitVec 32 := Scalar.addi c0_i32_477 v414
  v415.toNat
def k0_dev16 (d0 : Dev nD) : Nat :=
  let c0_i32_491 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_490 : BitVec 32 := 1#32
  let v424 : BitVec 32 := Scalar.muli v5 c1_i32_490
  let v425 : BitVec 32 := Scalar.addi c0_i32_491 v424
  v425.toNat
def k0_dev17 (d0 : Dev nD) : Nat :=
  let c0_i32_553 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_552 : BitVec 32 := 1#32
  let v474 : BitVec 32 := Scalar.muli v7 c1_i32_552
  let v475 : BitVec 32 := Scalar.addi c0_i32_553 v474
  v475.toNat
def k0_dev18 (d0 : Dev nD) : Nat :=
  let c0_i32_567 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_566 : BitVec 32 := 1#32
  let v484 : BitVec 32 := Scalar.muli v5 c1_i32_566
  let v485 : BitVec 32 := Scalar.addi c0_i32_567 v484
  v485.toNat
def k0_dev19 (d0 : Dev nD) : Nat :=
  let c0_i32_634 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_633 : BitVec 32 := 1#32
  let v541 : BitVec 32 := Scalar.muli v7 c1_i32_633
  let v542 : BitVec 32 := Scalar.addi c0_i32_634 v541
  v542.toNat
def k0_dev20 (d0 : Dev nD) : Nat :=
  let c0_i32_648 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_647 : BitVec 32 := 1#32
  let v551 : BitVec 32 := Scalar.muli v5 c1_i32_647
  let v552 : BitVec 32 := Scalar.addi c0_i32_648 v551
  v552.toNat
def k0_dev21 (d0 : Dev nD) : Nat :=
  let c0_i32_710 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_709 : BitVec 32 := 1#32
  let v601 : BitVec 32 := Scalar.muli v7 c1_i32_709
  let v602 : BitVec 32 := Scalar.addi c0_i32_710 v601
  v602.toNat
def k0_dev22 (d0 : Dev nD) : Nat :=
  let c0_i32_724 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_723 : BitVec 32 := 1#32
  let v611 : BitVec 32 := Scalar.muli v5 c1_i32_723
  let v612 : BitVec 32 := Scalar.addi c0_i32_724 v611
  v612.toNat
def k0_dev23 (d0 : Dev nD) : Nat :=
  let c0_i32_791 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_790 : BitVec 32 := 1#32
  let v668 : BitVec 32 := Scalar.muli v7 c1_i32_790
  let v669 : BitVec 32 := Scalar.addi c0_i32_791 v668
  v669.toNat
def k0_dev24 (d0 : Dev nD) : Nat :=
  let c0_i32_805 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_804 : BitVec 32 := 1#32
  let v678 : BitVec 32 := Scalar.muli v5 c1_i32_804
  let v679 : BitVec 32 := Scalar.addi c0_i32_805 v678
  v679.toNat
def k0_dev25 (d0 : Dev nD) : Nat :=
  let c0_i32_867 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_866 : BitVec 32 := 1#32
  let v728 : BitVec 32 := Scalar.muli v7 c1_i32_866
  let v729 : BitVec 32 := Scalar.addi c0_i32_867 v728
  v729.toNat
def k0_dev26 (d0 : Dev nD) : Nat :=
  let c0_i32_881 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_880 : BitVec 32 := 1#32
  let v738 : BitVec 32 := Scalar.muli v5 c1_i32_880
  let v739 : BitVec 32 := Scalar.addi c0_i32_881 v738
  v739.toNat
def k0_dev27 (d0 : Dev nD) : Nat :=
  let c0_i32_948 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_947 : BitVec 32 := 1#32
  let v795 : BitVec 32 := Scalar.muli v7 c1_i32_947
  let v796 : BitVec 32 := Scalar.addi c0_i32_948 v795
  v796.toNat
def k0_dev28 (d0 : Dev nD) : Nat :=
  let c0_i32_962 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_961 : BitVec 32 := 1#32
  let v805 : BitVec 32 := Scalar.muli v5 c1_i32_961
  let v806 : BitVec 32 := Scalar.addi c0_i32_962 v805
  v806.toNat
def k0_dev29 (d0 : Dev nD) : Nat :=
  let c0_i32_1024 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1023 : BitVec 32 := 1#32
  let v855 : BitVec 32 := Scalar.muli v7 c1_i32_1023
  let v856 : BitVec 32 := Scalar.addi c0_i32_1024 v855
  v856.toNat
def k0_dev30 (d0 : Dev nD) : Nat :=
  let c0_i32_1038 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_1037 : BitVec 32 := 1#32
  let v865 : BitVec 32 := Scalar.muli v5 c1_i32_1037
  let v866 : BitVec 32 := Scalar.addi c0_i32_1038 v865
  v866.toNat
def k0_dev31 (d0 : Dev nD) : Nat :=
  let c0_i32_1105 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1104 : BitVec 32 := 1#32
  let v922 : BitVec 32 := Scalar.muli v7 c1_i32_1104
  let v923 : BitVec 32 := Scalar.addi c0_i32_1105 v922
  v923.toNat
def k0_dev32 (d0 : Dev nD) : Nat :=
  let c0_i32_1119 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_1118 : BitVec 32 := 1#32
  let v932 : BitVec 32 := Scalar.muli v5 c1_i32_1118
  let v933 : BitVec 32 := Scalar.addi c0_i32_1119 v932
  v933.toNat
def k0_dev33 (d0 : Dev nD) : Nat :=
  let c0_i32_1181 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1180 : BitVec 32 := 1#32
  let v982 : BitVec 32 := Scalar.muli v7 c1_i32_1180
  let v983 : BitVec 32 := Scalar.addi c0_i32_1181 v982
  v983.toNat
def k0_dev34 (d0 : Dev nD) : Nat :=
  let c0_i32_1195 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_1194 : BitVec 32 := 1#32
  let v992 : BitVec 32 := Scalar.muli v5 c1_i32_1194
  let v993 : BitVec 32 := Scalar.addi c0_i32_1195 v992
  v993.toNat
def k0_dev35 (d0 : Dev nD) : Nat :=
  let c0_i32_1262 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1261 : BitVec 32 := 1#32
  let v1049 : BitVec 32 := Scalar.muli v7 c1_i32_1261
  let v1050 : BitVec 32 := Scalar.addi c0_i32_1262 v1049
  v1050.toNat
def k0_dev36 (d0 : Dev nD) : Nat :=
  let c0_i32_1276 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_1275 : BitVec 32 := 1#32
  let v1059 : BitVec 32 := Scalar.muli v5 c1_i32_1275
  let v1060 : BitVec 32 := Scalar.addi c0_i32_1276 v1059
  v1060.toNat
def k0_dev37 (d0 : Dev nD) : Nat :=
  let c0_i32_1338 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1337 : BitVec 32 := 1#32
  let v1109 : BitVec 32 := Scalar.muli v7 c1_i32_1337
  let v1110 : BitVec 32 := Scalar.addi c0_i32_1338 v1109
  v1110.toNat
def k0_dev38 (d0 : Dev nD) : Nat :=
  let c0_i32_1352 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_1351 : BitVec 32 := 1#32
  let v1119 : BitVec 32 := Scalar.muli v5 c1_i32_1351
  let v1120 : BitVec 32 := Scalar.addi c0_i32_1352 v1119
  v1120.toNat
def k0_dev39 (d0 : Dev nD) : Nat :=
  let c0_i32_1419 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1418 : BitVec 32 := 1#32
  let v1176 : BitVec 32 := Scalar.muli v7 c1_i32_1418
  let v1177 : BitVec 32 := Scalar.addi c0_i32_1419 v1176
  v1177.toNat
def k0_dev40 (d0 : Dev nD) : Nat :=
  let c0_i32_1433 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_1432 : BitVec 32 := 1#32
  let v1186 : BitVec 32 := Scalar.muli v5 c1_i32_1432
  let v1187 : BitVec 32 := Scalar.addi c0_i32_1433 v1186
  v1187.toNat
def k0_dev41 (d0 : Dev nD) : Nat :=
  let c0_i32_1495 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1494 : BitVec 32 := 1#32
  let v1236 : BitVec 32 := Scalar.muli v7 c1_i32_1494
  let v1237 : BitVec 32 := Scalar.addi c0_i32_1495 v1236
  v1237.toNat
def k0_dev42 (d0 : Dev nD) : Nat :=
  let c0_i32_1509 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_1508 : BitVec 32 := 1#32
  let v1246 : BitVec 32 := Scalar.muli v5 c1_i32_1508
  let v1247 : BitVec 32 := Scalar.addi c0_i32_1509 v1246
  v1247.toNat
def k0_dev43 (d0 : Dev nD) : Nat :=
  let c0_i32_1576 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1575 : BitVec 32 := 1#32
  let v1303 : BitVec 32 := Scalar.muli v7 c1_i32_1575
  let v1304 : BitVec 32 := Scalar.addi c0_i32_1576 v1303
  v1304.toNat
def k0_dev44 (d0 : Dev nD) : Nat :=
  let c0_i32_1590 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_1589 : BitVec 32 := 1#32
  let v1313 : BitVec 32 := Scalar.muli v5 c1_i32_1589
  let v1314 : BitVec 32 := Scalar.addi c0_i32_1590 v1313
  v1314.toNat
def k0_dev45 (d0 : Dev nD) : Nat :=
  let c0_i32_1652 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1651 : BitVec 32 := 1#32
  let v1363 : BitVec 32 := Scalar.muli v7 c1_i32_1651
  let v1364 : BitVec 32 := Scalar.addi c0_i32_1652 v1363
  v1364.toNat
def k0_dev46 (d0 : Dev nD) : Nat :=
  let c0_i32_1666 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_1665 : BitVec 32 := 1#32
  let v1373 : BitVec 32 := Scalar.muli v5 c1_i32_1665
  let v1374 : BitVec 32 := Scalar.addi c0_i32_1666 v1373
  v1374.toNat
def k0_dev47 (d0 : Dev nD) : Nat :=
  let c0_i32_1733 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1732 : BitVec 32 := 1#32
  let v1430 : BitVec 32 := Scalar.muli v7 c1_i32_1732
  let v1431 : BitVec 32 := Scalar.addi c0_i32_1733 v1430
  v1431.toNat
def k0_dev48 (d0 : Dev nD) : Nat :=
  let c0_i32_1747 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_1746 : BitVec 32 := 1#32
  let v1440 : BitVec 32 := Scalar.muli v5 c1_i32_1746
  let v1441 : BitVec 32 := Scalar.addi c0_i32_1747 v1440
  v1441.toNat
def k0_dev49 (d0 : Dev nD) : Nat :=
  let c0_i32_1809 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1808 : BitVec 32 := 1#32
  let v1490 : BitVec 32 := Scalar.muli v7 c1_i32_1808
  let v1491 : BitVec 32 := Scalar.addi c0_i32_1809 v1490
  v1491.toNat
def k0_dev50 (d0 : Dev nD) : Nat :=
  let c0_i32_1823 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_1822 : BitVec 32 := 1#32
  let v1500 : BitVec 32 := Scalar.muli v5 c1_i32_1822
  let v1501 : BitVec 32 := Scalar.addi c0_i32_1823 v1500
  v1501.toNat
def k0_dev51 (d0 : Dev nD) : Nat :=
  let c0_i32_1890 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1889 : BitVec 32 := 1#32
  let v1557 : BitVec 32 := Scalar.muli v7 c1_i32_1889
  let v1558 : BitVec 32 := Scalar.addi c0_i32_1890 v1557
  v1558.toNat
def k0_dev52 (d0 : Dev nD) : Nat :=
  let c0_i32_1904 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_1903 : BitVec 32 := 1#32
  let v1567 : BitVec 32 := Scalar.muli v5 c1_i32_1903
  let v1568 : BitVec 32 := Scalar.addi c0_i32_1904 v1567
  v1568.toNat
def k0_dev53 (d0 : Dev nD) : Nat :=
  let c0_i32_1966 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1965 : BitVec 32 := 1#32
  let v1617 : BitVec 32 := Scalar.muli v7 c1_i32_1965
  let v1618 : BitVec 32 := Scalar.addi c0_i32_1966 v1617
  v1618.toNat
def k0_dev54 (d0 : Dev nD) : Nat :=
  let c0_i32_1980 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_1979 : BitVec 32 := 1#32
  let v1627 : BitVec 32 := Scalar.muli v5 c1_i32_1979
  let v1628 : BitVec 32 := Scalar.addi c0_i32_1980 v1627
  v1628.toNat
def k0_dev55 (d0 : Dev nD) : Nat :=
  let c0_i32_2047 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2046 : BitVec 32 := 1#32
  let v1684 : BitVec 32 := Scalar.muli v7 c1_i32_2046
  let v1685 : BitVec 32 := Scalar.addi c0_i32_2047 v1684
  v1685.toNat
def k0_dev56 (d0 : Dev nD) : Nat :=
  let c0_i32_2061 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_2060 : BitVec 32 := 1#32
  let v1694 : BitVec 32 := Scalar.muli v5 c1_i32_2060
  let v1695 : BitVec 32 := Scalar.addi c0_i32_2061 v1694
  v1695.toNat
def k0_dev57 (d0 : Dev nD) : Nat :=
  let c0_i32_2123 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2122 : BitVec 32 := 1#32
  let v1744 : BitVec 32 := Scalar.muli v7 c1_i32_2122
  let v1745 : BitVec 32 := Scalar.addi c0_i32_2123 v1744
  v1745.toNat
def k0_dev58 (d0 : Dev nD) : Nat :=
  let c0_i32_2137 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_2136 : BitVec 32 := 1#32
  let v1754 : BitVec 32 := Scalar.muli v5 c1_i32_2136
  let v1755 : BitVec 32 := Scalar.addi c0_i32_2137 v1754
  v1755.toNat
def k0_dev59 (d0 : Dev nD) : Nat :=
  let c0_i32_2204 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2203 : BitVec 32 := 1#32
  let v1811 : BitVec 32 := Scalar.muli v7 c1_i32_2203
  let v1812 : BitVec 32 := Scalar.addi c0_i32_2204 v1811
  v1812.toNat
def k0_dev60 (d0 : Dev nD) : Nat :=
  let c0_i32_2218 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_2217 : BitVec 32 := 1#32
  let v1821 : BitVec 32 := Scalar.muli v5 c1_i32_2217
  let v1822 : BitVec 32 := Scalar.addi c0_i32_2218 v1821
  v1822.toNat
def k0_dev61 (d0 : Dev nD) : Nat :=
  let c0_i32_2280 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2279 : BitVec 32 := 1#32
  let v1871 : BitVec 32 := Scalar.muli v7 c1_i32_2279
  let v1872 : BitVec 32 := Scalar.addi c0_i32_2280 v1871
  v1872.toNat
def k0_dev62 (d0 : Dev nD) : Nat :=
  let c0_i32_2294 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_2293 : BitVec 32 := 1#32
  let v1881 : BitVec 32 := Scalar.muli v5 c1_i32_2293
  let v1882 : BitVec 32 := Scalar.addi c0_i32_2294 v1881
  v1882.toNat
def k0_off7 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32_2318 : BitVec 32 := 256#32
  let v1905 : BitVec 32 := Scalar.muli v2 c256_i32_2318
  let v1906 : Index := Scalar.indexCast v1905
  let c0_2319 : Index := 0#32
  ![v1906.toNat, 0]
def k0_off8 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32_2340 : BitVec 32 := 256#32
  let v1924 : BitVec 32 := Scalar.muli v2 c256_i32_2340
  let v1925 : Index := Scalar.indexCast v1924
  let c1024_2341 : Index := 1024#32
  ![v1925.toNat, 1024]
def k0_off9 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32_2362 : BitVec 32 := 256#32
  let v1943 : BitVec 32 := Scalar.muli v2 c256_i32_2362
  let v1944 : Index := Scalar.indexCast v1943
  let c512_2363 : Index := 512#32
  ![v1944.toNat, 512]
def k0_off10 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32_2384 : BitVec 32 := 256#32
  let v1962 : BitVec 32 := Scalar.muli v2 c256_i32_2384
  let v1963 : Index := Scalar.indexCast v1962
  let c1536_2385 : Index := 1536#32
  ![v1963.toNat, 1536]
abbrev stage0_0 : Fin 1 → Memref sig .tc .vmem S4096x256 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x2048 .fp8e5m2 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S4096x4096 : Shape := ⟨2, ![4096, 4096]⟩
abbrev S4096x2048 : Shape := ⟨2, ![4096, 2048]⟩
abbrev S1 : Shape := ⟨1, ![1]⟩

abbrev nBuf : Space → Nat
  | .hbm => 5
  | .vmem => 3
  | .smem => 2
  | _ => 0

abbrev bufTy : (tb : Table) → Fin (tcTables nBuf tb) → BufTy
  | .hbm, ⟨0, _⟩ => ⟨S4096x4096, .fp8e4m3⟩
  | .hbm, ⟨1, _⟩ => ⟨S4096x2048, .fp8e5m2⟩
  | .hbm, ⟨2, _⟩ => ⟨S1, .f32⟩
  | .hbm, ⟨3, _⟩ => ⟨S1, .f32⟩
  | .hbm, ⟨4, _⟩ => ⟨S4096x2048, .f32⟩
  | .local _ .vmem, ⟨0, _⟩ => ⟨S4096x4096, .fp8e4m3⟩
  | .local _ .vmem, ⟨1, _⟩ => ⟨S4096x2048, .fp8e5m2⟩
  | .local _ .vmem, ⟨2, _⟩ => ⟨S4096x2048, .f32⟩
  | .local _ .smem, ⟨0, _⟩ => ⟨S1, .f32⟩
  | .local _ .smem, ⟨1, _⟩ => ⟨S1, .f32⟩
  | _, _ => ⟨S4096x4096, .fp8e4m3⟩

abbrev bufScoped : (cs : CoreSpace) → Fin (nBuf (.core cs)) → Bool
  | .vmem, ⟨0, _⟩ => true
  | .vmem, ⟨1, _⟩ => true
  | .vmem, ⟨2, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg4_0 : Ref sig .tc := ⟨.vmem, 2, rfl⟩
abbrev cc0_stg2_0 : Ref sig .tc := ⟨.smem, 0, rfl⟩
abbrev cc0_stg3_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S4096x4096 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x2048 .fp8e5m2 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4096x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Proof.KernelIdeal.Rolled.lean ====
/- The kernel's body, written once per lane and hop.

   The printed body is one straight line of 5787 statements: two directions, two substreams, fifteen
   hops, each hop written out.  This module gives the same program as a fold over the hops, each
   step defined once for a symbolic direction, substream and hop, and proves that the printed body
   IS that program (`body_eq_rolled`). -/
module

public import proofs.«01_k».proof.Proof.Gen.KernelIdeal
public import proofs.«01_k».proof.Proof.Gen.KernelIdeal.Skeleton
public import Idealize.ShloMosaic.Lib.Tactic

@[expose] public section

noncomputable section

namespace Cert.KernelIdeal.Hand

open Cert.KernelIdeal Cert.KernelIdeal.Gen
open Idealize.ShloMosaic Idealize.ShloMosaic.TcCoe
open Idealize.SL Idealize.SL.Sem

variable {F : FTy → Type} [FloatOps F]

/-- A program of the kernel's body. -/
abbrev KProg (F : FTy → Type) := Prog (TpuEff nD τ sig (Elt F) Λ₀ .tc) PUnit

/-! ## The buffers, slots and semaphores of a lane

A direction is a `Bool`: `false` sends to the right-hand neighbour (`comm_r`), `true` to the left-hand
one (`comm_l`).  A substream is a `Fin 2`.  A communication buffer has 16 slots per substream: slot 0
is filled by the device itself, slot `j + 1` by hop `j` of the neighbour. -/

/-- The communication buffer of a direction. -/
def cM (d : Bool) : Memref sig .tc .vmem S16x2x256x512 .bf16 :=
  match d with | false => Memref.whole cc0_scratch1 | true => Memref.whole cc0_scratch2
theorem cM_whole (d : Bool) : (cM d).IsWhole := by cases d <;> exact Memref.isWhole_whole _

/-- The semaphores counting a direction's own sends. -/
def sndS (d : Bool) : DmaSems sig S15x2 := match d with | false => cc0_scratch3 | true => cc0_scratch5
/-- The semaphores counting a direction's arrivals. -/
def rcvS (d : Bool) : DmaSems sig S15x2 := match d with | false => cc0_scratch4 | true => cc0_scratch6

theorem slot_inb : ∀ (k : Fin 16) (s : Fin 2) (a), (![k.val, s.val, 0, 0] : Fin 4 → Nat) a + S1x1x256x512.size a ≤ S16x2x256x512.size a := by
  decide
/-- Slot `(k, s)` of a communication buffer, as a rectangle. -/
abbrev slotR (k : Fin 16) (s : Fin 2) : Rect S16x2x256x512 := Rect.unit (s := S16x2x256x512) ![k.val, s.val, 0, 0] S1x1x256x512.size (slot_inb k s)
theorem slot_words : ∀ (k : Fin 16) (s : Fin 2), (slotR k s).WholeWords (EltTy.packing .bf16) := by decide
theorem slot_packed : ∀ (k : Fin 16) (s : Fin 2), (slotR k s).PackedRows (EltTy.packing .bf16) := by decide

/-- Slot `(k, s)` of direction `d`'s communication buffer, as the transfers name it. -/
abbrev slot (d : Bool) (k : Fin 16) (s : Fin 2) : Memref sig .tc .vmem S256x512 .bf16 :=
  ((cM d).slice (slotR k s) (fun _ => rfl)).squeeze S256x512 squeezes_S1x1x256x512_S256x512
theorem slot_exact (d : Bool) (k : Fin 16) (s : Fin 2) : (slot d k s).view.WordExact :=
  ((cM_whole d).wordExact_slice rfl _ (slot_words k s)).reshape _ _

theorem sem_inb : ∀ (j : Fin 15) (s : Fin 2) (a), (![j.val, s.val] : Fin 2 → Nat) a + S1x1.size a ≤ S15x2.size a := by decide
/-- Entry `(j, s)` of a semaphore array. -/
abbrev semAt (A : DmaSems sig S15x2) (j : Fin 15) (s : Fin 2) : DmaSem sig :=
  ((A.slice (Rect.unit (s := S15x2) ![j.val, s.val] S1x1.size (sem_inb j s))).squeeze S_ squeezes_S1x1_S_).sem

/-- The device a direction sends to. -/
def tgt (d : Bool) (c : Dev nD) : Dev nD := match d with | false => ⟨k0_dev2 c, k0_dev2_lt c⟩ | true => ⟨k0_dev1 c, k0_dev1_lt c⟩

/-- The row offset and column offset, in the whole local product, of the block that hop `r + 1` adds. -/
def addOff (d : Bool) (s : Fin 2) (c : Dev nD) (r : Fin 14) : Fin 2 → Nat :=
  match d, s with
  | false, 0 => k0_off3 c (BitVec.ofNat 32 (1 + r.val))
  | true, 0 => k0_off4 c (BitVec.ofNat 32 (1 + r.val))
  | false, 1 => k0_off5 c (BitVec.ofNat 32 (1 + r.val))
  | true, 1 => k0_off6 c (BitVec.ofNat 32 (1 + r.val))
theorem addOff_inb (d : Bool) (s : Fin 2) (c : Dev nD) (r : Fin 14) (a) : addOff d s c r a + S256x512.size a ≤ S4096x2048.size a := by
  cases d <;> fin_cases s
  exacts [k0_off3_inb c r a, k0_off5_inb c r a, k0_off4_inb c r a, k0_off6_inb c r a]

/-- The same for the device's own block, added last. -/
def ownOff (d : Bool) (s : Fin 2) (c : Dev nD) : Fin 2 → Nat :=
  match d, s with
  | false, 0 => k0_off7 c | true, 0 => k0_off8 c | false, 1 => k0_off9 c | true, 1 => k0_off10 c
theorem ownOff_inb (d : Bool) (s : Fin 2) (c : Dev nD) (a) : ownOff d s c a + S256x512.size a ≤ S4096x2048.size a := by
  cases d <;> fin_cases s
  exacts [k0_off7_inb c a, k0_off9_inb c a, k0_off8_inb c a, k0_off10_inb c a]

/-- The rows of the left operand a direction starts from. -/
def startOff (d : Bool) (c : Dev nD) : Fin 2 → Nat := match d with | false => k0_off1 c | true => k0_off2 c
theorem startOff_inb (d : Bool) (c : Dev nD) (a) : startOff d c a + S256x256.size a ≤ S4096x256.size a := by
  cases d
  exacts [k0_off1_inb c a, k0_off2_inb c a]

/-- The first column of a lane's quarter of the result. -/
def laneCol (d : Bool) (s : Fin 2) : Nat := match d, s with | false, 0 => 0 | true, 0 => 1024 | false, 1 => 512 | true, 1 => 1536
theorem laneCol_inb (d : Bool) (s : Fin 2) (a) : (![0, laneCol d s] : Fin 2 → Nat) a + S256x512.size a ≤ S256x2048.size a := by
  revert d s a; decide
/-- A lane's quarter of the result. -/
abbrev outR (d : Bool) (s : Fin 2) : Rect S256x2048 := Rect.unit (s := S256x2048) ![0, laneCol d s] S256x512.size (laneCol_inb d s)

/-- What a lane starts from: the product of the loaded rows with the lane's columns of the right operand. -/
def initPay (d : Bool) (s : Fin 2) (w : Vec F S256x2048 .fp8e5m2) (x : Vec F S256x256 .fp8e4m3) : FVec F S1x1x256x512 .bf16 :=
  match d, s with
  | false, 0 => k0_pay3 (k0_pay2 w x)
  | true, 0 => k0_pay4 (k0_pay1 w) x
  | false, 1 => k0_pay5 (k0_pay1 w) x
  | true, 1 => k0_pay7 (k0_pay6 (k0_pay1 w) x)

/-! ## The program -/

section Steps
variable (arg0 : Memref sig .tc .vmem S4096x256 .fp8e4m3) (arg1 : Memref sig .tc .vmem S256x2048 .fp8e5m2)
  (arg2 arg3 : Memref sig .tc .smem S1 .f32) (arg4 : Memref sig .tc .vmem S256x2048 .f32)

/-- The local product's buffer. -/
abbrev partM : Memref sig .tc .vmem S4096x2048 .bf16 := Memref.whole cc0_scratch0

/-- Load slot `(k, s)` of a communication buffer. -/
def loadSlot (d : Bool) (k : Fin 16) (s : Fin 2) (q : Vec F S1x1x256x512 .bf16 → KProg F) : KProg F :=
  .op (.load (cM d) (slotR k s).toLoadRect (View.loadsAt_vmem h_S1x1x256x512)) q

/-- Overwrite slot `(k, s)`, after the load of it whose value nothing reads. -/
def storeSlot (d : Bool) (k : Fin 16) (s : Fin 2) (v : FVec F S1x1x256x512 .bf16) (q : KProg F) : KProg F :=
  loadSlot d k s fun _ =>
  .op (.store (cM d) (slotR k s) v Finset.univ
    (View.stores_vmem h_S1x1x256x512 ((cM_whole d).storeExact_slice rfl _ (slot_packed k s)) (fun _ => rfl)) (.inl rfl)) fun _ => q

/-- Fill slot 0 of a lane. -/
def initLane (c : Dev nD) (w : Vec F S256x2048 .fp8e5m2) (d : Bool) (s : Fin 2) (q : KProg F) : KProg F :=
  .op (.load arg0 (Rect.unit (s := S4096x256) (startOff d c) S256x256.size (startOff_inb d c)).toLoadRect (View.loadsAt_vmem h_S256x256)) fun x =>
  storeSlot d 0 s (initPay d s w x) q

/-- Hop `j` of a lane: copy slot `j` into the neighbour's slot `j + 1`. -/
def send (c : Dev nD) (d : Bool) (j : Fin 15) (s : Fin 2) (q : KProg F) : KProg F :=
  .op (.enqueueDma (slot d j.castSucc s) (.remote (Dev.tc (tgt d c)) (slot d j.succ s) (.dma (semAt (sndS d) j s))) (.dma (semAt (rcvS d) j s))
    (slot_exact d j.castSucc s) (slot_exact d j.succ s) ⟨⟨rfl, Or.inl rfl⟩, trivial⟩) fun _ => q

/-- Wait for hop `j`'s arrival in slot `j + 1`. -/
def recv (d : Bool) (j : Fin 15) (s : Fin 2) (q : KProg F) : KProg F :=
  .op (.waitDma2 (semAt (rcvS d) j s) (slot d j.castSucc s) (slot d j.succ s) (slot_exact d j.castSucc s) (slot_exact d j.succ s)) fun _ => q

/-- Wait until hop `j`'s send has left. -/
def waitSend (d : Bool) (j : Fin 15) (s : Fin 2) (q : KProg F) : KProg F :=
  .op (.waitDma2 (semAt (sndS d) j s) (slot d j.succ s) (slot d j.castSucc s) (slot_exact d j.succ s) (slot_exact d j.castSucc s)) fun _ => q

/-- Receive hop `r` and add the local block to what arrived. -/
def recvAdd (c : Dev nD) (d : Bool) (r : Fin 14) (s : Fin 2) (q : KProg F) : KProg F :=
  recv d r.castSucc s <| loadSlot d r.castSucc.succ s fun v =>
  .op (.load partM (Rect.unit (s := S4096x2048) (addOff d s c r) S256x512.size (addOff_inb d s c r)).toLoadRect (View.loadsAt_vmem h_S256x512)) fun p =>
  storeSlot d r.castSucc.succ s (k0_pay9 v p) q

/-- Hop `r + 1` of one substream: both directions receive and add, then both send on. -/
def hopSub (c : Dev nD) (r : Fin 14) (s : Fin 2) (q : KProg F) : KProg F :=
  recvAdd c false r s <| recvAdd c true r s <| send c false r.succ s <| send c true r.succ s q

/-- The last `n` of the hops 1 to 14. -/
def hops (c : Dev nD) : (n : Nat) → n ≤ 14 → KProg F → KProg F
  | 0, _, q => q
  | n + 1, h, q => hopSub c ⟨13 - n, by omega⟩ 0 <| hopSub c ⟨13 - n, by omega⟩ 1 <| hops c n (by omega) q

/-- Receive the last hop, add the device's own block, scale, and write the lane's quarter of the result. -/
def finLane (c : Dev nD) (sc : F .f32) (d : Bool) (s : Fin 2) (q : KProg F) : KProg F :=
  recv d 14 s <| loadSlot d 15 s fun v =>
  .op (.load partM (Rect.unit (s := S4096x2048) (ownOff d s c) S256x512.size (ownOff_inb d s c)).toLoadRect (View.loadsAt_vmem h_S256x512)) fun p =>
  .op (.load arg4 (outR d s).toLoadRect (View.loadsAt_vmem h_S256x512)) fun _ =>
  .op (.store arg4 (outR d s) (k0_pay77 sc v p) Finset.univ (View.stores_vmem_bits_univ h_S256x512 rfl) (.inl rfl)) fun _ => q

/-- Wait for the sends of the last `n` of the hops. -/
def waitSends : (n : Nat) → n ≤ 15 → KProg F → KProg F
  | 0, _, q => q
  | n + 1, h, q =>
    waitSend false ⟨14 - n, by omega⟩ 0 <| waitSend true ⟨14 - n, by omega⟩ 0 <|
    waitSend false ⟨14 - n, by omega⟩ 1 <| waitSend true ⟨14 - n, by omega⟩ 1 <| waitSends n (by omega) q

/-- The barrier semaphore. -/
abbrev barSem : Sem sig := (SemArray.scalar (sig.barrier 0 rfl) : Sems sig S_).sem

/-- After the last hop: read the two scales, finish the four lanes, drain the sends. -/
def tailProg (c : Dev nD) : KProg F :=
  smemLoadElt arg2 (Rect.unit (s := S1) ![0] S1.size inb_S1_S1_0) (View.loads_smem_one rfl numel1_S1) (Shape.Idx.first (numel1_S1.symm ▸ Nat.one_pos)) fun a =>
  smemLoadElt arg3 (Rect.unit (s := S1) ![0] S1.size inb_S1_S1_0) (View.loads_smem_one rfl numel1_S1) (Shape.Idx.first (numel1_S1.symm ▸ Nat.one_pos)) fun b =>
  finLane arg4 c (k0_pay76 a b) false 0 <| finLane arg4 c (k0_pay76 a b) true 0 <|
  finLane arg4 c (k0_pay76 a b) false 1 <| finLane arg4 c (k0_pay76 a b) true 1 <|
  waitSends 15 le_rfl <| .ret ⟨⟩

/-- After the barrier: fill the lanes, send hop 0, compute the whole local product, run the hops. -/
def mainProg (c : Dev nD) : KProg F :=
  .op (.load arg1 (Rect.unit (s := S256x2048) ![0, 0] S256x2048.size inb_S256x2048_S256x2048_0_0).toLoadRect (View.loadsAt_vmem h_S256x2048)) fun w =>
  initLane arg0 c w false 0 <| initLane arg0 c w true 0 <| initLane arg0 c w false 1 <| initLane arg0 c w true 1 <|
  send c false 0 0 <| send c true 0 0 <| send c false 0 1 <| send c true 0 1 <|
  .op (.load arg0 (Rect.unit (s := S4096x256) ![0, 0] S4096x256.size inb_S4096x256_S4096x256_0_0).toLoadRect (View.loadsAt_vmem h_S4096x256)) fun x =>
  .op (.load partM (Rect.unit (s := S4096x2048) ![0, 0] S4096x2048.size inb_S4096x2048_S4096x2048_0_0).toLoadRect (View.loadsAt_vmem h_S4096x2048)) fun _ =>
  .op (.store partM (Rect.unit (s := S4096x2048) ![0, 0] S4096x2048.size inb_S4096x2048_S4096x2048_0_0) (k0_pay8 (k0_pay1 w) x) Finset.univ
    (View.stores_vmem h_S4096x2048 ((Memref.isWhole_whole _).storeExact_slice rfl _ packedbf16_S4096x2048_S4096x2048_0_0) (fun _ => rfl)) (.inl rfl)) fun _ =>
  hops c 14 le_rfl <| tailProg arg2 arg3 arg4 c

/-- The whole body: signal both neighbours, wait for both, then run. -/
def rolled : KProg F :=
  .op .deviceId fun c =>
  .op (.semSignal ((tgt true c : Dev nD), .tc) barSem (1#32 : BitVec 32).toInt) fun _ =>
  .op (.semSignal ((tgt false c : Dev nD), .tc) barSem (1#32 : BitVec 32).toInt) fun _ =>
  .op (.semWait barSem (2#32 : BitVec 32).toInt) fun _ =>
  mainProg arg0 arg1 arg2 arg3 arg4 c

end Steps

set_option maxRecDepth 65536 in
/-- The printed body is the rolled program. -/
theorem body_eq_rolled (arg0 : Memref sig .tc .vmem S4096x256 .fp8e4m3) (harg0 : arg0.IsWhole) (arg1 : Memref sig .tc .vmem S256x2048 .fp8e5m2) (harg1 : arg1.IsWhole)
    (arg2 : Memref sig .tc .smem S1 .f32) (harg2 : arg2.IsWhole) (arg3 : Memref sig .tc .smem S1 .f32) (harg3 : arg3.IsWhole)
    (arg4 : Memref sig .tc .vmem S256x2048 .f32) (harg4 : arg4.IsWhole) :
    cc0_body (F := F) arg0 harg0 arg1 harg1 arg2 harg2 arg3 harg3 arg4 harg4
      (Memref.whole cc0_scratch0) (Memref.isWhole_whole _) (Memref.whole cc0_scratch1) (Memref.isWhole_whole _) (Memref.whole cc0_scratch2) (Memref.isWhole_whole _)
      cc0_scratch3 cc0_scratch4 cc0_scratch5 cc0_scratch6
    = rolled arg0 arg1 arg2 arg3 arg4 := by
  sl_kernel_rfl

end Cert.KernelIdeal.Hand

end
-- ==== Proof.KernelIdeal.Contents.lean ====
/- What the kernel's buffers hold, as functions of the staged arguments of all devices.

   `sentN d s j c` is what device `c` sends on hop `j` of lane `(d, s)`: at hop 0 a block of its own
   product, later what arrived from the device before it, plus its own block.  `outAt c` is the
   result block device `c` leaves. -/
module

public import proofs.«01_k».proof.Proof.KernelIdeal.Rolled

@[expose] public section

noncomputable section

namespace Cert.KernelIdeal.Hand

open Cert.KernelIdeal Cert.KernelIdeal.Gen
open Idealize.ShloMosaic Idealize.ShloMosaic.TcCoe
open Idealize.SL Idealize.SL.Sem

variable {F : FTy → Type} [FloatOps F]

/-! ## The ring -/

/-- The device a direction receives from. -/
def src (d : Bool) (c : Dev nD) : Dev nD := tgt (!d) c

theorem tgt_false_val (c : Dev nD) : (tgt false c).val = (c.val + 1) % 16 := k0_dev2_eq c
theorem tgt_true_val (c : Dev nD) : (tgt true c).val = (c.val + 15) % 16 := k0_dev1_eq c

/-- Sending one way and then the other comes back. -/
theorem tgt_tgt (d : Bool) (c : Dev nD) : tgt (!d) (tgt d c) = c := by
  have hc : c.val < 16 := c.isLt
  refine Fin.ext ?_
  cases d
  · show (tgt true (tgt false c)).val = c.val
    rw [tgt_true_val, tgt_false_val]; omega
  · show (tgt false (tgt true c)).val = c.val
    rw [tgt_false_val, tgt_true_val]; omega
theorem src_tgt (d : Bool) (c : Dev nD) : src d (tgt d c) = c := tgt_tgt d c
theorem tgt_src (d : Bool) (c : Dev nD) : tgt d (src d c) = c := by
  have h := tgt_tgt (!d) c
  rwa [Bool.not_not] at h

/-- A direction's step round the ring, as a permutation of the devices. -/
def ring (d : Bool) : Dev nD ≃ Dev nD := ⟨tgt d, src d, src_tgt d, tgt_src d⟩

/-! ## The contents -/

/-- The staged arguments of every device: the two operands and the two scales. -/
structure Args (F : FTy → Type) where
  x : Dev nD → (cc0_stg0_0 : Ref sig .tc).ty.Contents (Elt F)
  w : Dev nD → (cc0_stg1_0 : Ref sig .tc).ty.Contents (Elt F)
  sx : Dev nD → (cc0_stg2_0 : Ref sig .tc).ty.Contents (Elt F)
  sw : Dev nD → (cc0_stg3_0 : Ref sig .tc).ty.Contents (Elt F)

abbrev xM : Memref sig .tc .vmem S4096x256 .fp8e4m3 := Memref.whole cc0_stg0_0
abbrev wM : Memref sig .tc .vmem S256x2048 .fp8e5m2 := Memref.whole cc0_stg1_0
abbrev sxM : Memref sig .tc .smem S1 .f32 := Memref.whole cc0_stg2_0
abbrev swM : Memref sig .tc .smem S1 .f32 := Memref.whole cc0_stg3_0
abbrev oM : Memref sig .tc .vmem S256x2048 .f32 := Memref.whole cc0_stg4_0

/-- The rectangle of the left operand's rows a direction starts from. -/
abbrev startR (d : Bool) (c : Dev nD) : Rect S4096x256 := Rect.unit (s := S4096x256) (startOff d c) S256x256.size (startOff_inb d c)
/-- The rectangle of the local product that hop `r + 1` adds. -/
abbrev addR (d : Bool) (s : Fin 2) (c : Dev nD) (r : Fin 14) : Rect S4096x2048 := Rect.unit (s := S4096x2048) (addOff d s c r) S256x512.size (addOff_inb d s c r)
/-- The rectangle of the local product a device adds last. -/
abbrev ownR (d : Bool) (s : Fin 2) (c : Dev nD) : Rect S4096x2048 := Rect.unit (s := S4096x2048) (ownOff d s c) S256x512.size (ownOff_inb d s c)
/-- The one entry of a scale. -/
abbrev scR : Rect S1 := Rect.unit (s := S1) ![0] S1.size inb_S1_S1_0
abbrev scIx : scR.shape.Idx := Shape.Idx.first (numel1_S1.symm ▸ Nat.one_pos)

variable (a : Args F)

/-- What lane `(d, s)` of device `c` starts from. -/
def initV (d : Bool) (s : Fin 2) (c : Dev nD) : Vec F S1x1x256x512 .bf16 :=
  initPay d s (a.w c) ((xM.access (startR d c)).read (Elt F) (a.x c))

/-- Device `c`'s whole local product. -/
def partV (c : Dev nD) : Vec F S4096x2048 .bf16 := k0_pay8 (k0_pay1 (a.w c)) (a.x c)

/-- The block of it that hop `r + 1` of a lane adds. -/
def addV (d : Bool) (s : Fin 2) (c : Dev nD) (r : Fin 14) : Vec F S256x512 .bf16 := (partM.access (addR d s c r)).read (Elt F) (partV a c)
/-- The block of it added last. -/
def ownV (d : Bool) (s : Fin 2) (c : Dev nD) : Vec F S256x512 .bf16 := (partM.access (ownR d s c)).read (Elt F) (partV a c)

/-- What device `c` sends on hop `n` of lane `(d, s)`. -/
def sentN (d : Bool) (s : Fin 2) : Nat → Dev nD → Vec F S1x1x256x512 .bf16
  | 0, c => initV a d s c
  | n + 1, c => if h : n < 14 then k0_pay9 (sentN d s n (src d c)) (addV a d s c ⟨n, h⟩) else sentN d s n c

/-- Hop `r + 1` sends what hop `r` brought, plus the device's own block. -/
theorem sentN_succ (d : Bool) (s : Fin 2) (r : Fin 14) (c : Dev nD) :
    sentN a d s (r.val + 1) c = k0_pay9 (sentN a d s r.val (src d c)) (addV a d s c r) := dif_pos r.isLt

/-- The product of the two scales. -/
def scaleV (c : Dev nD) : F .f32 := k0_pay76 ((sxM.access scR).read (Elt F) (a.sx c) scIx) ((swM.access scR).read (Elt F) (a.sw c) scIx)

/-- The quarter of the result that lane `(d, s)` writes. -/
def laneV (d : Bool) (s : Fin 2) (c : Dev nD) : FVec F S256x512 .f32 := k0_pay77 (scaleV a c) (sentN a d s 14 (src d c)) (ownV a d s c)

/-- One lane's write into the result block. -/
def putLane (d : Bool) (s : Fin 2) (c : Dev nD) (f : (cc0_stg4_0 : Ref sig .tc).ty.Contents (Elt F)) : (cc0_stg4_0 : Ref sig .tc).ty.Contents (Elt F) :=
  (oM.access (outR d s)).write (Elt F) f (laneV a d s c) Finset.univ

/-- The four lanes' writes, in the kernel's order, over contents `f`. -/
def putLanes (c : Dev nD) (f : (cc0_stg4_0 : Ref sig .tc).ty.Contents (Elt F)) : (cc0_stg4_0 : Ref sig .tc).ty.Contents (Elt F) :=
  putLane a true 1 c (putLane a false 1 c (putLane a true 0 c (putLane a false 0 c f)))

/-- The result block device `c` leaves. -/
def outAt (c : Dev nD) : (cc0_stg4_0 : Ref sig .tc).ty.Contents (Elt F) := putLanes a c fun _ => scaleV a c

/-- The lane that writes an element: its column's quarter. -/
def laneOf (i : S256x2048.Idx) : Bool × Fin 2 :=
  (decide (1024 ≤ (i 1).val), ⟨(i 1).val / 512 % 2, Nat.mod_lt _ (by decide)⟩)

/-- An element lies in a lane's quarter exactly when the lane is its own. -/
theorem mem_outR (d : Bool) (s : Fin 2) (i : S256x2048.Idx) : i ∈ (outR d s).set ↔ laneOf i = (d, s) := by
  rw [Rect.mem_set_unit]
  have h0 : (i 0).val < 256 := (i 0).isLt
  have h1 : (i 1).val < 2048 := (i 1).isLt
  have hs : s.val < 2 := s.isLt
  have key : laneOf i = (d, s) ↔ laneCol d s ≤ (i 1).val ∧ (i 1).val < laneCol d s + 512 := by
    unfold laneOf
    rw [Prod.mk.injEq, Fin.ext_iff]
    obtain ⟨s, hs'⟩ := s
    have : s = 0 ∨ s = 1 := by omega
    rcases this with rfl | rfl <;> cases d <;> simp [laneCol] <;> omega
  rw [key]
  constructor
  · intro h; exact h 1
  · intro h k
    fin_cases k
    · exact ⟨Nat.zero_le _, by show (i 0).val < 0 + 256; omega⟩
    · exact h

/-- A lane's write changes its own quarter only, and to something that does not depend on what was there. -/
theorem putLane_apply (d : Bool) (s : Fin 2) (c : Dev nD) (f g : (cc0_stg4_0 : Ref sig .tc).ty.Contents (Elt F)) (i : S256x2048.Idx) :
    putLane a d s c f i = if laneOf i = (d, s) then putLane a d s c g i else f i := by
  have hset : (oM.access (outR d s)).set = (outR d s).set := View.set_slice_whole cc0_stg4_0 (outR d s)
  by_cases h : laneOf i = (d, s)
  · rw [if_pos h]
    have hi : i ∈ (oM.access (outR d s)).set := hset ▸ (mem_outR d s i).2 h
    obtain ⟨x, -, rfl⟩ := Finset.mem_map.1 hi
    unfold putLane
    rw [View.write_emb_of_mem _ _ (Finset.mem_univ x), View.write_emb_of_mem _ _ (Finset.mem_univ x)]
  · rw [if_neg h]
    exact View.write_of_not_mem _ _ _ fun hi => h ((mem_outR d s i).1 (hset ▸ hi))

/-- Each element of the block is written by its own lane. -/
theorem putLanes_apply (c : Dev nD) (f g : (cc0_stg4_0 : Ref sig .tc).ty.Contents (Elt F)) (i : S256x2048.Idx) :
    putLanes a c f i = putLane a (laneOf i).1 (laneOf i).2 c g i := by
  unfold putLanes
  rw [putLane_apply a true 1 c _ g, putLane_apply a false 1 c _ g, putLane_apply a true 0 c _ g, putLane_apply a false 0 c f g]
  generalize laneOf i = p
  obtain ⟨d, s⟩ := p
  fin_cases s <;> cases d <;> simp

/-- The four lanes overwrite the whole block, so what it held before does not matter. -/
theorem putLanes_eq (c : Dev nD) (f : (cc0_stg4_0 : Ref sig .tc).ty.Contents (Elt F)) : putLanes a c f = outAt a c :=
  funext fun (i : S256x2048.Idx) => (putLanes_apply a c f f i).trans (putLanes_apply a c _ f i).symm

/-- The result block, read in a lane's quarter, is what that lane wrote. -/
theorem read_outAt (d : Bool) (s : Fin 2) (c : Dev nD) : (oM.access (outR d s)).read (Elt F) (outAt a c) = laneV a d s c := by
  have h : (oM.access (outR d s)).read (Elt F) (putLane a d s c (outAt a c)) = laneV a d s c := View.read_write_univ _ _
  have hset : (oM.access (outR d s)).set = (outR d s).set := View.set_slice_whole cc0_stg4_0 (outR d s)
  rw [← h]
  refine View.read_congr fun i hi => ?_
  have hl : laneOf i = (d, s) := (mem_outR d s i).1 (hset ▸ hi)
  have := putLanes_apply a c (fun _ => scaleV a c) (outAt a c) i
  rw [hl] at this
  exact this

end Cert.KernelIdeal.Hand

end
-- ==== Proof.KernelIdeal.Schedule.lean ====
/- The protocol of the two rings: who waits on each semaphore, who signals it, how much, and what is handed over.

   Every device has a barrier cell and, per lane hop `(d, j, s)`, a receive cell and a send cell; all have one round.
   * The barrier cell takes one unit from each neighbour.  The neighbour in direction `d` hands over slots 1 to 15 of its
     communication buffer `d`, which this device alone then writes.
   * The receive cell of hop `(d, j, s)` takes the copy of the device before it, and hands over slot `j + 1` holding what
     that device sent.
   * The send cell takes the same copy's departure and gives slot `j` back. -/
module

public import proofs.«01_k».proof.Proof.KernelIdeal.Contents
public import proofs.«01_k».proof.Proof.Gen.KernelIdeal.Launch
public import Idealize.ShloMosaic.Lib.Pipeline.Launch
public import Idealize.ShloMosaic.Lib.Pipeline.Kit
public import Idealize.ShloMosaic.Lib.Ring
public import Idealize.ShloMosaic.Lib.ViewIndex
public import Idealize.ShloMosaic.Lib.Tactic

@[expose] public section

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The ghost state of the rings' rounds, and with the pipeline's. -/
abbrev UB := URounds (GSem nD τ sig) Bool
abbrev UU := UR sig nD τ × UB
local notation "𝕄" => MT nD τ sig Unit (Elt F) ℕ UU ℕ
abbrev EP : Emb (UR sig nD τ) (MT nD τ sig Unit (Elt F) ℕ UU ℕ) := embL
abbrev ER : Emb UB (MT nD τ sig Unit (Elt F) ℕ UU ℕ) := embR

/-! ## The cells -/

/-- A lane hop: direction, hop, substream. -/
abbrev Hop := Bool × Fin 15 × Fin 2
/-- The cells of a device: its barrier, and per lane hop a receive cell (`true`) and a send cell (`false`). -/
abbrev CI := Option (Bool × Hop)

/-- The semaphore of a cell. -/
def csem : CI → SemLoc sig
  | none => .reg barSem
  | some (true, x) => .dma (semAt (rcvS x.1) x.2.1 x.2.2)
  | some (false, x) => .dma (semAt (sndS x.1) x.2.1 x.2.2)

abbrev barCell (c : Dev nD) : GSem nD τ sig := ((c : Thread nD τ), .reg barSem)
abbrev recvCell (c : Dev nD) (x : Hop) : GSem nD τ sig := ((c : Thread nD τ), .dma (semAt (rcvS x.1) x.2.1 x.2.2))
abbrev sendCell (c : Dev nD) (x : Hop) : GSem nD τ sig := ((c : Thread nD τ), .dma (semAt (sndS x.1) x.2.1 x.2.2))
abbrev kcell (ck : Dev nD × CI) : GSem nD τ sig := ((ck.1 : Thread nD τ), csem ck.2)

/-- Which cell a transfer semaphore belongs to: after the five staging semaphores, the four arrays one after the other. -/
def decD (q : DmaSem sig) : Option (Bool × Hop) :=
  if q.val < 5 then none
  else some (decide ((q.val - 5) / 30 % 2 = 1), decide (60 ≤ q.val - 5),
    ⟨(q.val - 5) % 30 / 2, by omega⟩, ⟨(q.val - 5) % 2, Nat.mod_lt _ (by decide)⟩)
/-- Which cell a semaphore belongs to. -/
def decS : SemLoc sig → Option CI
  | .reg s => if s = barSem then some none else none
  | .dma q => (decD q).map some

theorem decD_recv : ∀ x : Hop, decD (semAt (rcvS x.1) x.2.1 x.2.2) = some (true, x) := by decide +kernel
theorem decD_send : ∀ x : Hop, decD (semAt (sndS x.1) x.2.1 x.2.2) = some (false, x) := by decide +kernel
theorem decS_bar : decS (.reg barSem) = some none := by unfold decS; exact if_pos rfl
theorem decS_recv (x : Hop) : decS (.dma (semAt (rcvS x.1) x.2.1 x.2.2)) = some (some (true, x)) := by
  show (decD _).map some = _; rw [decD_recv]; rfl
theorem decS_send (x : Hop) : decS (.dma (semAt (sndS x.1) x.2.1 x.2.2)) = some (some (false, x)) := by
  show (decD _).map some = _; rw [decD_send]; rfl
/-- The cell a semaphore decodes to is the one it came from. -/
theorem decS_csem (k : CI) : decS (csem k) = some k := by
  rcases k with _ | ⟨_ | _, x⟩
  exacts [decS_bar, decS_send x, decS_recv x]
theorem csem_inj : Function.Injective csem := fun k k' h => by
  have := decS_csem k; rw [h, decS_csem] at this; exact (Option.some.inj this).symm
theorem kcell_inj : Function.Injective kcell := fun ⟨c, k⟩ ⟨c', k'⟩ h => by
  have h1 : c = c' := congrArg (fun g : GSem nD τ sig => g.1.1) h
  have h2 : k = k' := csem_inj (congrArg Prod.snd h)
  rw [h1, h2]

/-! ## The slots -/

/-- Slot `(k, s)` of communication buffer `d`, as the loads and stores name it. -/
abbrev sV (d : Bool) (k : Fin 16) (s : Fin 2) : View sig .tc .vmem S1x1x256x512 .bf16 := (cM d).access (slotR k s)

/-- A copied block's credit: the same for every slot. -/
abbrev N : ℕ := (slot false 0 0).view.dmaCredit
theorem N_pos : 0 < N := View.dmaCredit_pos _ (by decide)

/-- Slot `(k, s)` of device `c`'s buffer `d` holds `v`. -/
def slotPts (c : Dev nD) (d : Bool) (k : Fin 16) (s : Fin 2) (v : Vec F S1x1x256x512 .bf16) : sProp 𝕄 :=
  iprop(∃ f, ⌜(sV d k s).read (Elt F) f = v⌝ ∗ (sV d k s).loc (c : Thread nD τ) ↦[(sV d k s).set]{fullShare} f)
/-- Slot `(k, s)` of device `c`'s buffer `d`, whatever it holds. -/
def slotAny (c : Dev nD) (d : Bool) (k : Fin 16) (s : Fin 2) : sProp 𝕄 :=
  iprop(∃ f, (sV d k s).loc (c : Thread nD τ) ↦[(sV d k s).set]{fullShare} f)

instance slotPts_storable (c : Dev nD) (d : Bool) (k s v) : BI.Storable (upEmb : UEmb _ 𝕄) (slotPts (F := F) c d k s v) := by
  unfold slotPts; infer_instance
instance slotAny_storable (c : Dev nD) (d : Bool) (k s) : BI.Storable (upEmb : UEmb _ 𝕄) (slotAny (F := F) c d k s) := by
  unfold slotAny; infer_instance

/-- Forgetting what a slot holds. -/
theorem slotPts_any (c : Dev nD) (d : Bool) (k s) (v) : slotPts (F := F) c d k s v ⊢ slotAny c d k s := by
  unfold slotPts slotAny; iintro ⟨%f, -, H⟩; iexists f; iassumption

/-- The transfers' view of a slot holds the same elements. -/
theorem slot_set (d : Bool) (k : Fin 16) (s : Fin 2) : (slot d k s).view.set = (sV d k s).set := View.set_reshape _ _

/-! ## The schedule -/

variable (a : Args F)

/-- What device `c` sends on a lane hop. -/
def sentV (x : Hop) (c : Dev nD) : Vec F S1x1x256x512 .bf16 := sentN a x.1 x.2.2 x.2.1.val c

/-- What the neighbour in direction `d` hands over with its barrier signal: slots 1 to 15 of its buffer `d`. -/
def barPay (c : Dev nD) (d : Bool) : sProp 𝕄 := bigSep Finset.univ fun js : Fin 15 × Fin 2 => slotAny (F := F) (tgt d c) d js.1.succ js.2
/-- What an arrival hands over. -/
def recvPay (c : Dev nD) (x : Hop) : sProp 𝕄 := slotPts c x.1 x.2.1.succ x.2.2 (sentV a x (src x.1 c))
/-- What a departure gives back. -/
def sendPay (c : Dev nD) (x : Hop) : sProp 𝕄 := slotAny (F := F) c x.1 x.2.1.castSucc x.2.2

/-- The duties of a cell's only round: a barrier's two neighbours, a copy's one. -/
def dutyOf : Option CI → Finset Bool
  | none => ∅ | some none => Finset.univ | some (some _) => {false}
/-- What a duty hands over. -/
def payOf (c : Dev nD) : Option CI → Bool → sProp 𝕄
  | none, _ => iprop(emp) | some none, d => barPay c d | some (some (true, x)), _ => recvPay a c x | some (some (false, x)), _ => sendPay c x
/-- How much a duty signals. -/
def amtOf : Option CI → ℕ | some none => 1 | _ => N

instance payOf_storable (c : Dev nD) (k) (d) : BI.Storable (upEmb : UEmb _ 𝕄) (payOf a c k d) := by
  rcases k with _ | _ | ⟨_ | _, x⟩
  · show BI.Storable upEmb iprop(emp); infer_instance
  · show BI.Storable upEmb (barPay c d); unfold barPay; infer_instance
  · show BI.Storable upEmb (sendPay c x); unfold sendPay; infer_instance
  · show BI.Storable upEmb (recvPay a c x); unfold recvPay; infer_instance

/-- The rings' schedule. -/
def Rd : Rounds.Schedule (GSem nD τ sig) Bool 𝕄 where
  duties g r := if r = 0 ∧ g.1.2 = .tc then dutyOf (decS g.2) else ∅
  unitless _ := False
  amount g _ _ := amtOf (decS g.2)
  payload g _ d := payOf a g.1.1 (decS g.2) d
  amount_pos g _ _ _ := by
    rcases decS g.2 with _ | _ | k
    exacts [N_pos, Nat.one_pos, N_pos]

instance Rd_storable (g : GSem nD τ sig) (r : ℕ) (d : Bool) : BI.Storable (upEmb : UEmb _ 𝕄) ((Rd a).payload g r d) :=
  payOf_storable a g.1.1 (decS g.2) d

section Sched
variable (c : Dev nD) (k : CI)

theorem duties_k : (Rd a).duties (kcell (c, k)) 0 = dutyOf (some k) :=
  (show (if 0 = 0 ∧ ((c : Thread nD τ).2 = .tc) then dutyOf (decS (csem k)) else ∅) = _ from (if_pos ⟨rfl, rfl⟩).trans (congrArg dutyOf (decS_csem k)))
theorem duties_later (g : GSem nD τ sig) : ∀ r, 1 ≤ r → (Rd a).duties g r = ∅ := fun r hr => if_neg fun h => by omega
theorem amount_k (d : Bool) : (Rd a).amount (kcell (c, k)) 0 d = amtOf (some k) := congrArg amtOf (decS_csem k)
theorem payload_k (d : Bool) : (Rd a).payload (kcell (c, k)) 0 d = payOf a c (some k) d := congrArg (fun k => payOf a c k d) (decS_csem k)

/-- A cell's round is worth its duties' amounts. -/
theorem expect_k : (Rd a).expect (kcell (c, k)) 0 = (dutyOf (some k)).card * amtOf (some k) := by
  unfold Schedule.expect Schedule.amountOf
  rw [duties_k, Finset.sum_congr rfl fun d _ => amount_k a c k d, Finset.sum_const, smul_eq_mul]
theorem expect_bar : (Rd a).expect (barCell c) 0 = 2 := expect_k a c none
theorem expect_xfer (y : Bool × Hop) : (Rd a).expect (kcell (c, some y)) 0 = N := (expect_k a c (some y)).trans (Nat.one_mul N)

/-- A cell's round hands over its duties' payloads. -/
theorem rest_k : bigSep ((Rd a).duties (kcell (c, k)) 0 \ ∅) (fun d => (Rd a).payload (kcell (c, k)) 0 d)
    = bigSep (dutyOf (some k)) (payOf a c (some k)) := by
  rw [Finset.sdiff_empty, duties_k, funext (payload_k a c k)]
/-- The whole of a barrier's round: both neighbours' slots. -/
theorem rest_bar : bigSep ((Rd a).duties (barCell c) 0 \ ∅) (fun d => (Rd a).payload (barCell c) 0 d)
    = iprop(barPay (F := F) c false ∗ barPay c true) := by
  refine (rest_k a c none).trans ?_
  rw [show dutyOf (some none) = Finset.univ from rfl, bigSep_univ_eq_bigSepL [false, true] (by decide) (by decide), bigSepL_cons_cons, bigSepL_singleton]
  rfl
/-- The whole of an arrival's round. -/
theorem rest_recv (x : Hop) : bigSep ((Rd a).duties (recvCell c x) 0 \ ∅) (fun d => (Rd a).payload (recvCell c x) 0 d) = recvPay a c x :=
  (rest_k a c (some (true, x))).trans bigSep_singleton
/-- The whole of a departure's round. -/
theorem rest_send (x : Hop) : bigSep ((Rd a).duties (sendCell c x) 0 \ ∅) (fun d => (Rd a).payload (sendCell c x) 0 d) = sendPay (F := F) c x :=
  (rest_k a c (some (false, x))).trans bigSep_singleton

end Sched

/-! ## What is owed, and the levels -/

/-- The arrivals device `c` still owes: those of the lane hops in `S`. -/
def owedS (c : Dev nD) (S : Finset Hop) : CellTallies nD τ sig Unit := ∑ x ∈ S, tallyAt (recvCell (tgt x.1 c) x) () N
/-- At launch: every arrival, and both neighbours' barriers one unit. -/
def O₁ (c : Dev nD) : CellTallies nD τ sig Unit := owedS c Finset.univ + tallyAt (barCell (tgt false c)) () 1
def O₀ (c : Dev nD) : CellTallies nD τ sig Unit := O₁ c + tallyAt (barCell (tgt true c)) () 1

theorem owedS_empty (c : Dev nD) : owedS c ∅ = 0 := Finset.sum_empty
/-- A lane hop of `S` is the last thing owed. -/
theorem owedS_erase (c : Dev nD) {S : Finset Hop} {x : Hop} (hx : x ∈ S) :
    owedS c S = owedS c (S.erase x) + tallyAt (recvCell (tgt x.1 c) x) () N := (Finset.sum_erase_add S _ hx).symm

/-- Every cell of a device's core has the one label. -/
def L (g : GSem nD τ sig) : Finset Unit := if g.1.2 = .tc then {()} else ∅
/-- The order of waiting: staging and departures, the barrier, then the arrivals hop by hop. -/
def lvOf : Option CI → ℕ | some none => 1 | some (some (true, x)) => x.2.1.val + 2 | _ => 0
def lv (g : GSem nD τ sig) (_ : Unit) : ℕ := lvOf (decS g.2)

theorem L_of_ne (g : GSem nD τ sig) (h : g.1.2 ≠ .tc) : L g = ∅ := if_neg h
theorem L_tc (c : Dev nD) (sm : SemLoc sig) : L ((c : Thread nD τ), sm) = {()} := if_pos rfl
theorem lv_k (c : Dev nD) (k : CI) (u : Unit) : lv (kcell (c, k)) u = lvOf (some k) := by
  show lvOf (decS (csem k)) = _; rw [decS_csem]

theorem tally_pos {g g' : GSem nD τ sig} {n : ℕ} {u : Unit} (h : 0 < tallyAt (Ix := Unit) g' () n g u) : g = g' := by
  rw [tallyAt_apply] at h
  by_contra hn
  rw [if_neg fun h' => hn h'.1] at h
  exact Nat.lt_irrefl 0 h
theorem owedS_pos {c : Dev nD} {S : Finset Hop} {g : GSem nD τ sig} {u : Unit} (h : 0 < owedS c S g u) :
    ∃ x ∈ S, g = kcell (tgt x.1 c, some (true, x)) := by
  unfold owedS at h
  rw [Finset.sum_apply, Finsupp.finset_sum_apply] at h
  obtain ⟨x, hx, hp⟩ := Finset.exists_ne_zero_of_sum_ne_zero (Nat.pos_iff_ne_zero.1 h)
  exact ⟨x, hx, tally_pos (Nat.pos_of_ne_zero hp)⟩
/-- Everything owed at launch is owed to a barrier or an arrival cell. -/
theorem O₀_pos {c : Dev nD} {g : GSem nD τ sig} {u : Unit} (h : 0 < O₀ c g u) : ∃ c' k, g = kcell (c', k) ∧ 0 < lvOf (some k) := by
  unfold O₀ O₁ at h
  rw [Pi.add_apply, Finsupp.add_apply, Pi.add_apply, Finsupp.add_apply] at h
  by_cases h1 : 0 < tallyAt (Ix := Unit) (barCell (tgt true c)) () 1 g u
  · exact ⟨_, none, tally_pos h1, Nat.one_pos⟩
  by_cases h2 : 0 < tallyAt (Ix := Unit) (barCell (tgt false c)) () 1 g u
  · exact ⟨_, none, tally_pos h2, Nat.one_pos⟩
  obtain ⟨x, -, hx⟩ := owedS_pos (c := c) (S := Finset.univ) (g := g) (u := u) (by omega)
  exact ⟨_, _, hx, Nat.succ_pos _⟩

/-- A wait on a cell is in order when everything owed lies above it. -/
theorem mayWait_of (c : Dev nD) (sm : SemLoc sig) (O : CellTallies nD τ sig Unit)
    (hO : ∀ g u, 0 < O g u → ∃ c' k, g = kcell (c', k) ∧ lvOf (decS sm) < lvOf (some k)) :
    (levAts L lv : sProp 𝕄) ⊢ MayWait (c : Thread nD τ) sm () O :=
  MayOwe.of_cut (L := L) (lev := lv) (lvOf (decS sm)) (fun p hp => by rw [Finset.mem_singleton.mp hp, L_tc]; exact Finset.mem_singleton_self _)
    (fun g u hg => by obtain ⟨c', k, rfl, -⟩ := hO g u hg; exact Finset.mem_singleton_self _)
    (fun p hp => by rw [Finset.mem_singleton.mp hp]; exact le_rfl)
    (fun g u hg => by obtain ⟨c', k, rfl, h⟩ := hO g u hg; rw [lv_k]; exact h)

/-- At its barrier wait a device owes arrivals only. -/
theorem mayWait_bar (c : Dev nD) : (levAts L lv : sProp 𝕄) ⊢ MayWait (c : Thread nD τ) (.reg barSem) () (owedS c Finset.univ) :=
  mayWait_of c _ _ fun g u hg => by
    obtain ⟨x, -, rfl⟩ := owedS_pos hg
    exact ⟨_, _, rfl, by rw [decS_bar]; show 1 < x.2.1.val + 2; omega⟩
/-- Waiting for hop `j` a device owes later hops only. -/
theorem mayWait_recv (c : Dev nD) (x : Hop) (S : Finset Hop) (hS : ∀ y ∈ S, x.2.1 < y.2.1) :
    (levAts L lv : sProp 𝕄) ⊢ MayWait (c : Thread nD τ) (.dma (semAt (rcvS x.1) x.2.1 x.2.2)) () (owedS c S) :=
  mayWait_of c _ _ fun g u hg => by
    obtain ⟨y, hy, rfl⟩ := owedS_pos hg
    have h : x.2.1.val < y.2.1.val := hS y hy
    exact ⟨_, _, rfl, by rw [decS_recv]; show x.2.1.val + 2 < y.2.1.val + 2; omega⟩

/-! ## What every device knows -/

/-- Every cell's invariant, and that its round 0 has begun. -/
def records (K : Dev nD × CI → ℕ) : sProp 𝕄 :=
  iprop(bigSep Finset.univ (fun ck => cellInv ER (Rd a) (K ck) (kcell ck)) ∗ bigSep Finset.univ (fun ck => reached ER (kcell ck) 0) ∗ levAts L lv)
instance records_persistent (K : Dev nD × CI → ℕ) : BI.Persistent (records a K) := by unfold records; infer_instance

theorem records_inv (K : Dev nD × CI → ℕ) (ck) : records a K ⊢ cellInv ER (Rd a) (K ck) (kcell ck) := by
  have h : bigSep Finset.univ (fun ck => cellInv ER (Rd a) (K ck) (kcell ck)) ⊢ cellInv ER (Rd a) (K ck) (kcell ck) := bigSep_elim (Finset.mem_univ ck)
  unfold records; iintro ⟨H, -, -⟩; iapply h; iassumption
theorem records_reached (K : Dev nD × CI → ℕ) (ck) : records a K ⊢ (reached ER (kcell ck) 0 : sProp 𝕄) := by
  have h : bigSep Finset.univ (fun ck => reached ER (kcell ck) 0) ⊢ (reached ER (kcell ck) 0 : sProp 𝕄) := bigSep_elim (Finset.mem_univ ck)
  unfold records; iintro ⟨-, H, -⟩; iapply h; iassumption
theorem records_mayWait_bar (K : Dev nD × CI → ℕ) (c : Dev nD) :
    records a K ⊢ MayWait (c : Thread nD τ) (.reg barSem) () (owedS c Finset.univ) := by
  have h := mayWait_bar (F := F) c
  unfold records; iintro ⟨-, -, H⟩; iapply h; iassumption
theorem records_mayWait_recv (K : Dev nD × CI → ℕ) (c : Dev nD) (x : Hop) (S : Finset Hop) (hS : ∀ y ∈ S, x.2.1 < y.2.1) :
    records a K ⊢ MayWait (c : Thread nD τ) (.dma (semAt (rcvS x.1) x.2.1 x.2.2)) () (owedS c S) := by
  have h := mayWait_recv (F := F) c x S hS
  unfold records; iintro ⟨-, -, H⟩; iapply h; iassumption

end Cert.KernelIdeal.Hand

end
-- ==== Proof.KernelIdeal.Steps.lean ====
/- One step of a lane at a time: sending a slot, receiving one, adding to it, and waiting for a send to have left.

   Each lemma is stated once, for every device, direction, hop and substream. -/
module

public import proofs.«01_k».proof.Proof.KernelIdeal.Schedule

@[expose] public section

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ

abbrev 𝒱₀ : Variants := Variants.none

/-- A program of device `c` runs safely and ends in `Q`. -/
abbrev WP (c : Dev nD) (p : KProg F) (Q : PUnit → sProp 𝕄) : sProp 𝕄 :=
  wp frame (wpE (defs₀ (F := F)) 𝒱₀ (c : Thread nD τ) none) Set.univ p Q

/-! ## What a device holds while it runs -/

/-- For a lane hop still to be sent: the right to send it and the neighbour's slot. -/
def Tx (c : Dev nD) (x : Hop) : sProp 𝕄 :=
  iprop(dutyTok ER (sendCell c x) 0 false ∗ dutyTok ER (recvCell (tgt x.1 c) x) 0 false ∗ slotAny (tgt x.1 c) x.1 x.2.1.succ x.2.2
    ∗ atPos ER (sendCell c x) 0 ∅ 0)
/-- For a lane hop sent: the right to wait for its departure. -/
def Sent (c : Dev nD) (x : Hop) : sProp 𝕄 := iprop(cred (tallyAt (sendCell c x) () N) ∗ atPos ER (sendCell c x) 0 ∅ 0)
/-- For a lane hop still to be received: the right to wait for it. -/
def Rx (c : Dev nD) (x : Hop) : sProp 𝕄 := iprop(cred (tallyAt (recvCell c x) () N) ∗ atPos ER (recvCell c x) 0 ∅ 0)
/-- For a lane hop received: its semaphore, at zero. -/
def Got (c : Dev nD) (x : Hop) : sProp 𝕄 := semVal (recvCell c x) 0
/-- For a lane hop whose departure was waited for: its semaphore, at zero, and the slot it left from. -/
def Gone (c : Dev nD) (x : Hop) : sProp 𝕄 := iprop(semVal (sendCell c x) 0 ∗ slotAny c x.1 x.2.1.castSucc x.2.2)

theorem Tx_eq (c : Dev nD) (x : Hop) : Tx (F := F) c x
    = iprop(dutyTok ER (sendCell c x) 0 false ∗ dutyTok ER (recvCell (tgt x.1 c) x) 0 false
        ∗ (∃ f, (sV x.1 x.2.1.succ x.2.2).loc (tgt x.1 c : Thread nD τ) ↦[(sV x.1 x.2.1.succ x.2.2).set]{fullShare} f)
        ∗ atPos ER (sendCell c x) 0 ∅ 0) := rfl
theorem Sent_eq (c : Dev nD) (x : Hop) : Sent (F := F) c x = iprop(cred (tallyAt (sendCell c x) () N) ∗ atPos ER (sendCell c x) 0 ∅ 0) := rfl
theorem Rx_eq (c : Dev nD) (x : Hop) : Rx (F := F) c x = iprop(cred (tallyAt (recvCell c x) () N) ∗ atPos ER (recvCell c x) 0 ∅ 0) := rfl

/-- Device `c` with the lane hops `S` still to send and `R` still to receive. -/
def St (c : Dev nD) (S R : Finset Hop) : sProp 𝕄 :=
  iprop(∃ W, owes (c : Thread nD τ) (owedS c S) W ∗ bigSep S (Tx c) ∗ bigSep Sᶜ (Sent c) ∗ bigSep R (Rx c) ∗ bigSep Rᶜ (Got c))
/-- Device `c` with the departures of `T` still to wait for. -/
def Wt (c : Dev nD) (T : Finset Hop) : sProp 𝕄 :=
  iprop(∃ W, owes (c : Thread nD τ) 0 W ∗ bigSep T (Sent c) ∗ bigSep Tᶜ (Gone c))
/-- The local product, in its buffer. -/
def partPts (a : Args F) (c : Dev nD) : sProp 𝕄 := ((c : Thread nD τ).loc cc0_scratch0) ↦{fullShare} partV a c
/-- The result's buffer, holding `f`. -/
def outPts (c : Dev nD) (f : (cc0_stg4_0 : Ref sig .tc).ty.Contents (Elt F)) : sProp 𝕄 := ((c : Thread nD τ).loc cc0_stg4_0) ↦{fullShare} f

/-- Moving one lane hop out of a set adds it to the complement. -/
theorem bigSep_erase_compl {S : Finset Hop} {x : Hop} (hx : x ∈ S) (Φ : Hop → sProp 𝕄) :
    bigSep (S.erase x)ᶜ Φ = iprop(Φ x ∗ bigSep Sᶜ Φ) := by
  rw [Finset.compl_erase, bigSep_insert (fun h => Finset.mem_compl.1 h hx)]
  rfl
/-- Taking one lane hop out of a set. -/
theorem bigSep_take {S : Finset Hop} {x : Hop} (hx : x ∈ S) (Φ : Hop → sProp 𝕄) :
    bigSep S Φ = iprop(Φ x ∗ bigSep (S.erase x) Φ) := bigSep_erase hx

variable (a : Args F) (K : Dev nD × CI → ℕ) (c : Dev nD)

/-- A copy's cell has the one duty. -/
theorem mem_duties (y : Bool × Hop) : false ∈ (Rd a).duties (kcell (c, some y)) 0 := by
  rw [duties_k]; exact Finset.mem_singleton_self _
/-- Every slot's copy is worth the same. -/
theorem slot_amount (d : Bool) (k : Fin 16) (s : Fin 2) (q : DmaSem sig) : (slot d k s).view.amount (.dma q) = N := rfl

/-! ## Slots -/

/-- What lands in a slot, read the way the kernel loads it, is what the source slot held, read the same way. -/
theorem read_landed (d : Bool) (k k' : Fin 16) (s : Fin 2) (fd : (sV d k s).ty.Contents (Elt F)) (fs : (sV d k' s).ty.Contents (Elt F)) :
    (sV d k s).read (Elt F) ((slot d k s).view.write (Elt F) fd ((slot d k' s).view.read (Elt F) fs) Finset.univ) = (sV d k' s).read (Elt F) fs := by
  rw [View.write_reshape_univ, View.read_write_univ]
  funext y
  show (sV d k' s).read (Elt F) fs (Shape.reshapeEquiv _ ((Shape.reshapeEquiv _).symm y)) = _
  rw [Equiv.apply_symm_apply]

/-- Loading a slot. -/
theorem wp_loadSlot (d : Bool) (k : Fin 16) (s : Fin 2) (v) (q : Vec F S1x1x256x512 .bf16 → KProg F) (Q : PUnit → sProp 𝕄) :
    iprop(slotPts c d k s v ∗ (slotPts c d k s v -∗ WP c (q v) Q)) ⊢ WP c (loadSlot d k s q) Q := by
  unfold loadSlot slotPts
  iintro ⟨⟨%f, %hf, H⟩, Hk⟩
  subst hf
  iapply (wp_load_rect 𝒱₀ (c : Thread nD τ) none Set.univ (m := cM d) (r := slotR k s) (Finset.Subset.refl _)) $$ H
  iintro H
  iapply Hk
  iexists f
  isplitr; · (ipureintro; rfl)
  iexact H

/-- Overwriting a slot. -/
theorem wp_storeSlot (d : Bool) (k : Fin 16) (s : Fin 2) (v : FVec F S1x1x256x512 .bf16) (q : KProg F) (Q : PUnit → sProp 𝕄) :
    iprop(slotAny c d k s ∗ (slotPts c d k s v -∗ WP c q Q)) ⊢ WP c (storeSlot d k s v q) Q := by
  unfold storeSlot loadSlot slotPts slotAny
  iintro ⟨⟨%f, H⟩, Hk⟩
  iapply (wp_load_rect 𝒱₀ (c : Thread nD τ) none Set.univ (m := cM d) (r := slotR k s) (Finset.Subset.refl _)) $$ H
  iintro H
  iapply (wp_store 𝒱₀ (c : Thread nD τ) none Set.univ (m := cM d) (r := slotR k s) (Mk := Finset.univ) (S := (sV d k s).set) (Finset.Subset.refl _)) $$ H
  iintro H
  iapply Hk
  iexists ((sV d k s).write (Elt F) f v Finset.univ)
  isplitr
  · ipureintro; exact View.read_write_univ _ _
  iexact H

/-! ## Sending and receiving -/

/-- Copying slot `j` of a lane into the neighbour's slot `j + 1`. -/
theorem wp_sendHop (x : Hop) {S R : Finset Hop} (hx : x ∈ S) (q : KProg F) (Q : PUnit → sProp 𝕄) :
    iprop(records a K ∗ St c S R ∗ slotPts c x.1 x.2.1.castSucc x.2.2 (sentV a x c) ∗ (St c (S.erase x) R -∗ WP c q Q))
      ⊢ WP c (send c x.1 x.2.1 x.2.2 q) Q := by
  unfold send
  conv_lhs => enter [2, 1]; unfold St
  conv_lhs => enter [2, 2, 1]; unfold slotPts
  iintro ⟨#Hrec, ⟨%W, HO, HT, HS, HR, HG⟩, ⟨%f, %hf, Hsrc⟩, Hk⟩
  ihave HT := (Entails.of_eq (bigSep_take hx _)) $$ HT
  icases HT with ⟨Hx, HT⟩
  ihave Hx := (Entails.of_eq (Tx_eq c x)) $$ Hx
  icases Hx with ⟨Ht1, Ht2, ⟨%fd, Hdst⟩, Hat⟩
  have hset : ∀ k, (slot x.1 k x.2.2).view.set = (sV x.1 k x.2.2).set := fun k => slot_set x.1 k x.2.2
  iapply (Rounds.wp_send_pointsTo 𝒱₀ ER (Rd a) (c : Thread nD τ) none (c' := (tgt x.1 c : Thread nD τ)) (src := slot x.1 x.2.1.castSucc x.2.2) (dst := slot x.1 x.2.1.succ x.2.2)
    (κ₁ := K (c, some (false, x))) (κ₂ := K (tgt x.1 c, some (true, x))) (r₁ := 0) (r₂ := 0) (d₁ := false) (d₂ := false) (fd := fd) (fs := f) (q := fullShare)
    (sS := .dma (semAt (sndS x.1) x.2.1 x.2.2)) (sem := .dma (semAt (rcvS x.1) x.2.1 x.2.2))
    (mem_duties a c (false, x)) (mem_duties a (tgt x.1 c) (true, x))
    () () N (slot_amount _ _ _ _) (amount_k a c (some (false, x)) false) (amount_k a (tgt x.1 c) (some (true, x)) false)
    (owedS c (S.erase x)) (owedS_erase c hx) (W := W)
    (BIBase.Entails.trans (by show _ ⊢ sendPay c x; unfold sendPay slotAny; rw [hset]; iintro H; iexists f; iexact H) (Entails.of_eq (payload_k a c (some (false, x)) false).symm))
    (BIBase.Entails.trans (by
        show _ ⊢ recvPay a (tgt x.1 c) x
        unfold recvPay slotPts; rw [hset, src_tgt]; iintro H; iexists _
        isplitr; rotate_left; · iexact H
        ipureintro; rw [read_landed, hf]) (Entails.of_eq (payload_k a (tgt x.1 c) (some (true, x)) false).symm))) $$ [Hsrc Hdst HO Ht1 Ht2]
  · rw [hset, hset]
    isplitr; · iapply (records_inv a K (c, some (false, x))); iexact Hrec
    isplitr; · iapply (records_inv a K (tgt x.1 c, some (true, x))); iexact Hrec
    isplitl [Hsrc]; · iexact Hsrc
    isplitl [Hdst]; · iexact Hdst
    isplitl [HO]; · iexact HO
    isplitl [Ht1]; · iexact Ht1
    isplitr; · iapply (records_reached a K (c, some (false, x))); iexact Hrec
    isplitl [Ht2]; · iexact Ht2
    iapply (records_reached a K (tgt x.1 c, some (true, x))); iexact Hrec
  iintro ⟨HcS, HO⟩
  iapply Hk
  unfold St
  iexists W
  rw [bigSep_erase_compl hx]
  isplitl [HO]; · iexact HO
  isplitl [HT]; · iexact HT
  isplitl [HcS Hat HS]
  · isplitr [HS]
    · unfold Sent; isplitl [HcS] <;> iassumption
    iexact HS
  isplitl [HR] <;> iassumption

/-- Waiting for a lane hop's arrival: slot `j + 1` holds what the device before sent. -/
theorem wp_recvHop (x : Hop) {S R : Finset Hop} (hx : x ∈ R) (hS : ∀ y ∈ S, x.2.1 < y.2.1) (q : KProg F) (Q : PUnit → sProp 𝕄) :
    iprop(records a K ∗ St c S R ∗ (iprop(St c S (R.erase x) ∗ slotPts c x.1 x.2.1.succ x.2.2 (sentV a x (src x.1 c))) -∗ WP c q Q))
      ⊢ WP c (recv x.1 x.2.1 x.2.2 q) Q := by
  unfold recv
  conv_lhs => enter [2, 1]; unfold St
  iintro ⟨#Hrec, ⟨%W, HO, HT, HS, HR, HG⟩, Hk⟩
  ihave HR := (Entails.of_eq (bigSep_take hx _)) $$ HR
  icases HR with ⟨Hx, HR⟩
  ihave Hx := (Entails.of_eq (Rx_eq c x)) $$ Hx
  icases Hx with ⟨Hc, Hat⟩
  iapply (Rounds.wp_wait_rest_token 𝒱₀ ER (Rd a) (c : Thread nD τ) none (κ := K (c, some (true, x)))
      (wpE_waitDma2_eq 𝒱₀ (c : Thread nD τ) none Set.univ) (Set.mem_univ _) () (O := owedS c S) (W := W) (R := 0) (m := 0) (T := ∅)
      (by rw [Nat.zero_add]; exact (expect_xfer a c (true, x)).symm)) $$ [Hc HO Hat]
  · isplitr; · iapply (records_inv a K (c, some (true, x))); iexact Hrec
    isplitl [Hc]; · iexact Hc
    isplitl [HO]; · iexact HO
    isplitr; · iapply (records_mayWait_recv a K c x S hS); iexact Hrec
    iexact Hat
  iintro ⟨HO, Hat, -, Hpay⟩
  ihave Hpay := (Entails.of_eq (rest_recv a c x)) $$ Hpay
  imod (Rounds.cell_close ER (Rd a) (Set.mem_univ (K (c, some (true, x)))) (fun h => h) (R := 0 + 1) (duties_later a (recvCell c x))) $$ [Hat] with Hz
  · isplitr; · iapply (records_inv a K (c, some (true, x))); iexact Hrec
    iexact Hat
  iapply Hk
  isplitr [Hpay]
  · unfold St
    iexists _
    rw [bigSep_erase_compl hx]
    isplitl [HO]; · iexact HO
    isplitl [HT]; · iexact HT
    isplitl [HS]; · iexact HS
    isplitl [HR]; · iexact HR
    isplitl [Hz]; · unfold Got; iexact Hz
    iexact HG
  unfold recvPay; iexact Hpay

/-- Waiting for a lane hop's departure: slot `j` comes back. -/
theorem wp_waitHop (x : Hop) {T : Finset Hop} (hx : x ∈ T) (q : KProg F) (Q : PUnit → sProp 𝕄) :
    iprop(records a K ∗ Wt c T ∗ (Wt c (T.erase x) -∗ WP c q Q)) ⊢ WP c (waitSend x.1 x.2.1 x.2.2 q) Q := by
  unfold waitSend
  conv_lhs => enter [2, 1]; unfold Wt
  iintro ⟨#Hrec, ⟨%W, HO, HT, HG⟩, Hk⟩
  ihave HT := (Entails.of_eq (bigSep_take hx _)) $$ HT
  icases HT with ⟨Hx, HT⟩
  ihave Hx := (Entails.of_eq (Sent_eq c x)) $$ Hx
  icases Hx with ⟨Hc, Hat⟩
  iapply (Rounds.wp_wait_rest_token 𝒱₀ ER (Rd a) (c : Thread nD τ) none (κ := K (c, some (false, x)))
      (wpE_waitDma2_eq 𝒱₀ (c : Thread nD τ) none Set.univ) (Set.mem_univ _) () (O := 0) (W := W) (R := 0) (m := 0) (T := ∅)
      (by rw [Nat.zero_add]; exact (expect_xfer a c (false, x)).symm)) $$ [Hc HO Hat]
  · isplitr; · iapply (records_inv a K (c, some (false, x))); iexact Hrec
    isplitl [Hc]; · iexact Hc
    isplitl [HO]; · iexact HO
    isplitr; · rw [MayWait_zero]; iempintro
    iexact Hat
  iintro ⟨HO, Hat, -, Hpay⟩
  ihave Hpay := (Entails.of_eq (rest_send a c x)) $$ Hpay
  imod (Rounds.cell_close ER (Rd a) (Set.mem_univ (K (c, some (false, x)))) (fun h => h) (R := 0 + 1) (duties_later a (sendCell c x))) $$ [Hat] with Hz
  · isplitr; · iapply (records_inv a K (c, some (false, x))); iexact Hrec
    iexact Hat
  iapply Hk
  unfold Wt
  iexists _
  rw [bigSep_erase_compl hx]
  isplitl [HO]; · iexact HO
  isplitl [HT]; · iexact HT
  isplitl [Hz Hpay]
  · unfold Gone sendPay; isplitl [Hz] <;> iassumption
  iexact HG

end Cert.KernelIdeal.Hand

end
-- ==== Proof.KernelIdeal.Run.lean ====
/- A device's run after the barrier, put together from the single steps. -/
module

public import proofs.«01_k».proof.Proof.KernelIdeal.Steps

@[expose] public section

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ

/-! ## The order of the lane hops -/

/-- The lane hops from position `n` on, two directions at each position, two substreams to a hop. -/
def pos (n : ℕ) : Finset Hop := Finset.univ.filter fun x => n ≤ 2 * x.2.1.val + x.2.2.val

theorem mem_pos {n : ℕ} {x : Hop} : x ∈ pos n ↔ n ≤ 2 * x.2.1.val + x.2.2.val := by simp [pos]
theorem pos_zero : pos 0 = Finset.univ := Finset.filter_true_of_mem fun _ _ => Nat.zero_le _
theorem pos_end : pos 30 = ∅ := Finset.filter_false_of_mem fun x _ => by
  have := x.2.1.isLt; have := x.2.2.isLt; omega
/-- Taking both directions' lane hop at a position moves to the next. -/
theorem pos_succ (j : Fin 15) (s : Fin 2) : ((pos (2 * j.val + s.val)).erase (false, j, s)).erase (true, j, s) = pos (2 * j.val + s.val + 1) := by
  ext ⟨d, j', s'⟩
  have h1 := s.isLt
  have h2 := s'.isLt
  rw [Finset.mem_erase, Finset.mem_erase, mem_pos, mem_pos]
  simp only [ne_eq, Prod.mk.injEq, Fin.ext_iff]
  cases d <;> simp only [true_and, Bool.false_eq_true, false_and, not_false_eq_true, Bool.true_eq_false] <;> omega
theorem mem_pos_false (j : Fin 15) (s : Fin 2) : (false, j, s) ∈ pos (2 * j.val + s.val) := mem_pos.2 le_rfl
theorem mem_pos_true (j : Fin 15) (s : Fin 2) : (true, j, s) ∈ (pos (2 * j.val + s.val)).erase (false, j, s) :=
  Finset.mem_erase.2 ⟨by simp, mem_pos.2 le_rfl⟩

variable (a : Args F) (K : Dev nD × CI → ℕ) (c : Dev nD)

/-! ## One hop -/

/-- Receiving hop `r` of a lane and adding the local block makes slot `r + 1` what hop `r + 1` sends. -/
theorem wp_recvAdd (d : Bool) (r : Fin 14) (s : Fin 2) {S R : Finset Hop} (hx : (d, r.castSucc, s) ∈ R) (hS : ∀ y ∈ S, r.castSucc < y.2.1)
    (q : KProg F) (Q : PUnit → sProp 𝕄) :
    iprop(records a K ∗ St c S R ∗ partPts a c
        ∗ (iprop(St c S (R.erase (d, r.castSucc, s)) ∗ partPts a c ∗ slotPts c d r.succ.castSucc s (sentV a (d, r.succ, s) c)) -∗ WP c q Q))
      ⊢ WP c (recvAdd c d r s q) Q := by
  unfold recvAdd
  iintro ⟨#Hrec, HSt, Hp, Hk⟩
  iapply (wp_recvHop a K c (d, r.castSucc, s) hx hS)
  isplitr; · iexact Hrec
  isplitl [HSt]; · iexact HSt
  iintro ⟨HSt, Hs⟩
  iapply (wp_loadSlot c d r.castSucc.succ s)
  isplitl [Hs]; · iexact Hs
  iintro Hs
  unfold partPts
  iapply (wp_load_rect 𝒱₀ (c : Thread nD τ) none Set.univ (m := partM) (r := addR d s c r) (Finset.subset_univ _)) $$ Hp
  iintro Hp
  iapply (wp_storeSlot c d r.castSucc.succ s)
  isplitl [Hs]; · iapply (slotPts_any c d r.castSucc.succ s); iexact Hs
  iintro Hs
  iapply Hk
  isplitl [HSt]; · iexact HSt
  isplitl [Hp]; · iexact Hp
  ihave Hs := (Entails.of_eq (show slotPts c d r.castSucc.succ s (k0_pay9 (sentV a (d, r.castSucc, s) (src (d, r.castSucc, s).1 c))
      ((partM.access (addR d s c r)).read (Elt F) (partV a c)))
    = slotPts c d r.succ.castSucc s (sentV a (d, r.succ, s) c) by
      rw [show sentV a (d, r.succ, s) c = _ from sentN_succ a d s r c]; rfl)) $$ Hs
  iexact Hs

/-- Hop `r + 1` of a substream, both directions. -/
theorem wp_hopSub (r : Fin 14) (s : Fin 2) (q : KProg F) (Q : PUnit → sProp 𝕄) :
    iprop(records a K ∗ St c (pos (2 * r.val + s.val + 2)) (pos (2 * r.val + s.val)) ∗ partPts a c
        ∗ (iprop(St c (pos (2 * r.val + s.val + 3)) (pos (2 * r.val + s.val + 1)) ∗ partPts a c) -∗ WP c q Q))
      ⊢ WP c (hopSub c r s q) Q := by
  have hs := s.isLt
  have hS : ∀ y ∈ pos (2 * r.val + s.val + 2), r.castSucc < y.2.1 := fun y hy => by
    have h := mem_pos.1 hy
    have h' := y.2.2.isLt
    show r.val < y.2.1.val
    omega
  have hR : ((pos (2 * r.castSucc.val + s.val)).erase (false, r.castSucc, s)).erase (true, r.castSucc, s) = pos (2 * r.val + s.val + 1) := pos_succ r.castSucc s
  have hT := pos_succ r.succ s
  rw [show 2 * r.succ.val + s.val = 2 * r.val + s.val + 2 by show 2 * (r.val + 1) + s.val = _; omega] at hT
  have hT1 := mem_pos_false r.succ s
  have hT2 := mem_pos_true r.succ s
  rw [show 2 * r.succ.val + s.val = 2 * r.val + s.val + 2 by show 2 * (r.val + 1) + s.val = _; omega] at hT1 hT2
  unfold hopSub
  iintro ⟨#Hrec, HSt, Hp, Hk⟩
  iapply (wp_recvAdd a K c false r s (mem_pos_false r.castSucc s) hS)
  isplitr; · iexact Hrec
  isplitl [HSt]; · iexact HSt
  isplitl [Hp]; · iexact Hp
  iintro ⟨HSt, Hp, Hs0⟩
  iapply (wp_recvAdd a K c true r s (mem_pos_true r.castSucc s) hS)
  isplitr; · iexact Hrec
  isplitl [HSt]; · iexact HSt
  isplitl [Hp]; · iexact Hp
  iintro ⟨HSt, Hp, Hs1⟩
  iapply (wp_sendHop a K c (false, r.succ, s) hT1)
  isplitr; · iexact Hrec
  isplitl [HSt]; · iexact HSt
  isplitl [Hs0]; · iexact Hs0
  iintro HSt
  iapply (wp_sendHop a K c (true, r.succ, s) hT2)
  isplitr; · iexact Hrec
  isplitl [HSt]; · iexact HSt
  isplitl [Hs1]; · iexact Hs1
  iintro HSt
  iapply Hk
  isplitl [HSt]
  · rw [← hT, ← hR]; iexact HSt
  iexact Hp

/-- The last `n` of the hops 1 to 14. -/
theorem wp_hops (n : ℕ) (h : n ≤ 14) (q : KProg F) (Q : PUnit → sProp 𝕄) :
    iprop(records a K ∗ St c (pos (2 * (14 - n) + 2)) (pos (2 * (14 - n))) ∗ partPts a c
        ∗ (iprop(St c ∅ (pos 28) ∗ partPts a c) -∗ WP c q Q))
      ⊢ WP c (hops c n h q) Q := by
  induction n with
  | zero =>
    unfold hops
    iintro ⟨-, HSt, Hp, Hk⟩
    iapply Hk
    rw [← pos_end]
    isplitl [HSt] <;> iassumption
  | succ n ih =>
    unfold hops
    have e : 2 * (14 - (n + 1)) = 2 * (13 - n) := by omega
    have e' : 2 * (14 - n) = 2 * (13 - n) + 2 := by omega
    rw [e]
    have h0 := wp_hopSub a K c ⟨13 - n, by omega⟩ 0 (hopSub c ⟨13 - n, by omega⟩ 1 (hops c n (by omega) q)) Q
    have h1 := wp_hopSub a K c ⟨13 - n, by omega⟩ 1 (hops c n (by omega) q) Q
    have ih := ih (by omega)
    rw [e'] at ih
    iintro ⟨#Hrec, HSt, Hp, Hk⟩
    iapply h0
    isplitr; · iexact Hrec
    isplitl [HSt]; · iexact HSt
    isplitl [Hp]; · iexact Hp
    iintro ⟨HSt, Hp⟩
    iapply h1
    isplitr; · iexact Hrec
    isplitl [HSt]; · iexact HSt
    isplitl [Hp]; · iexact Hp
    iintro ⟨HSt, Hp⟩
    iapply ih
    isplitr; · iexact Hrec
    isplitl [HSt]; · iexact HSt
    isplitl [Hp] <;> iassumption

/-! ## The end -/

/-- The last hop of a lane: the lane's quarter of the result is written. -/
theorem wp_finLane (d : Bool) (s : Fin 2) {R : Finset Hop} (hx : (d, (14 : Fin 15), s) ∈ R) (f) (q : KProg F) (Q : PUnit → sProp 𝕄) :
    iprop(records a K ∗ St c ∅ R ∗ partPts a c ∗ outPts c f
        ∗ (iprop(St c ∅ (R.erase (d, (14 : Fin 15), s)) ∗ partPts a c ∗ outPts c (putLane a d s c f) ∗ slotAny c d 15 s) -∗ WP c q Q))
      ⊢ WP c (finLane oM c (scaleV a c) d s q) Q := by
  unfold finLane
  iintro ⟨#Hrec, HSt, Hp, Ho, Hk⟩
  iapply (wp_recvHop a K c (d, (14 : Fin 15), s) hx (fun y hy => absurd hy (Finset.notMem_empty y)))
  isplitr; · iexact Hrec
  isplitl [HSt]; · iexact HSt
  iintro ⟨HSt, Hs⟩
  iapply (wp_loadSlot c d 15 s)
  isplitl [Hs]; · iexact Hs
  iintro Hs
  unfold partPts outPts
  iapply (wp_load_rect 𝒱₀ (c : Thread nD τ) none Set.univ (m := partM) (r := ownR d s c) (Finset.subset_univ _)) $$ Hp
  iintro Hp
  iapply (wp_load_rect 𝒱₀ (c : Thread nD τ) none Set.univ (m := oM) (r := outR d s) (Finset.subset_univ _)) $$ Ho
  iintro Ho
  iapply (wp_store 𝒱₀ (c : Thread nD τ) none Set.univ (m := oM) (r := outR d s) (Mk := Finset.univ) (S := Finset.univ) (Finset.subset_univ _)) $$ Ho
  iintro Ho
  iapply Hk
  isplitl [HSt]; · iexact HSt
  isplitl [Hp]; · iexact Hp
  isplitl [Ho]; · iexact Ho
  iapply (slotPts_any c d 15 s); iexact Hs

/-- Waiting for the departures of the last `n` of the hops. -/
theorem wp_waitSends (n : ℕ) (h : n ≤ 15) (q : KProg F) (Q : PUnit → sProp 𝕄) :
    iprop(records a K ∗ Wt c (pos (2 * (15 - n))) ∗ (Wt c ∅ -∗ WP c q Q)) ⊢ WP c (waitSends n h q) Q := by
  induction n with
  | zero =>
    unfold waitSends
    iintro ⟨-, HW, Hk⟩
    iapply Hk
    rw [← pos_end]
    iexact HW
  | succ n ih =>
    unfold waitSends
    have e : 2 * (15 - (n + 1)) = 2 * (14 - n) := by omega
    have e' : 2 * (15 - n) = 2 * (14 - n) + 1 + 1 := by omega
    have ih := ih (by omega)
    rw [e'] at ih
    rw [e]
    have m0 := mem_pos_false ⟨14 - n, by omega⟩ 0
    have m1 := mem_pos_true ⟨14 - n, by omega⟩ 0
    have m2 := mem_pos_false ⟨14 - n, by omega⟩ 1
    have m3 := mem_pos_true ⟨14 - n, by omega⟩ 1
    have p0 := pos_succ ⟨14 - n, by omega⟩ 0
    have p1 := pos_succ ⟨14 - n, by omega⟩ 1
    iintro ⟨#Hrec, HW, Hk⟩
    iapply (wp_waitHop a K c (false, _, 0) m0)
    isplitr; · iexact Hrec
    isplitl [HW]; · iexact HW
    iintro HW
    iapply (wp_waitHop a K c (true, _, 0) m1)
    isplitr; · iexact Hrec
    isplitl [HW]; · iexact HW
    rw [p0]
    iintro HW
    iapply (wp_waitHop a K c (false, _, 1) m2)
    isplitr; · iexact Hrec
    isplitl [HW]; · iexact HW
    iintro HW
    iapply (wp_waitHop a K c (true, _, 1) m3)
    isplitr; · iexact Hrec
    isplitl [HW]; · iexact HW
    rw [p1]
    iintro HW
    iapply ih
    isplitr; · iexact Hrec
    isplitl [HW]; · iexact HW
    iexact Hk

/-- What a device has when it is done, apart from its arguments: nothing owed, its semaphores at zero, its
    communication buffers, and the result block. -/
def Fin' (c : Dev nD) : sProp 𝕄 :=
  iprop((∃ W, owes (c : Thread nD τ) 0 W) ∗ bigSep Finset.univ (Got (F := F) c) ∗ bigSep Finset.univ (Gone (F := F) c)
    ∗ (slotAny c false 15 0 ∗ slotAny c true 15 0 ∗ slotAny c false 15 1 ∗ slotAny c true 15 1)
    ∗ partPts a c ∗ outPts c (outAt a c))

/-- The scales' buffers. -/
def scalePts (c : Dev nD) : sProp 𝕄 :=
  iprop((((c : Thread nD τ).loc cc0_stg2_0) ↦{fullShare} a.sx c) ∗ (((c : Thread nD τ).loc cc0_stg3_0) ↦{fullShare} a.sw c))
/-- The operands' buffers. -/
def opPts (c : Dev nD) : sProp 𝕄 :=
  iprop((((c : Thread nD τ).loc cc0_stg0_0) ↦{fullShare} a.x c) ∗ (((c : Thread nD τ).loc cc0_stg1_0) ↦{fullShare} a.w c))

/-- After the hops: the four quarters of the result, and every send departed. -/
theorem wp_tail (f) (Q : PUnit → sProp 𝕄) :
    iprop(records a K ∗ St c ∅ (pos 28) ∗ partPts a c ∗ outPts c f ∗ scalePts a c ∗ (iprop(Fin' a c ∗ scalePts a c) -∗ Q ⟨⟩))
      ⊢ WP c (tailProg sxM swM oM c) Q := by
  have m0 : (false, (14 : Fin 15), (0 : Fin 2)) ∈ pos 28 := mem_pos_false 14 0
  have m1 : (true, (14 : Fin 15), (0 : Fin 2)) ∈ (pos 28).erase (false, (14 : Fin 15), (0 : Fin 2)) := mem_pos_true 14 0
  have m2 : (false, (14 : Fin 15), (1 : Fin 2)) ∈ pos 29 := mem_pos_false 14 1
  have m3 : (true, (14 : Fin 15), (1 : Fin 2)) ∈ (pos 29).erase (false, (14 : Fin 15), (1 : Fin 2)) := mem_pos_true 14 1
  have p0 : ((pos 28).erase (false, (14 : Fin 15), (0 : Fin 2))).erase (true, (14 : Fin 15), (0 : Fin 2)) = pos 29 := pos_succ 14 0
  have p1 : ((pos 29).erase (false, (14 : Fin 15), (1 : Fin 2))).erase (true, (14 : Fin 15), (1 : Fin 2)) = ∅ := (pos_succ 14 1).trans pos_end
  unfold tailProg
  conv_lhs => enter [2, 2, 2, 2, 1]; unfold scalePts
  iintro ⟨#Hrec, HSt, Hp, Ho, ⟨Hsx, Hsw⟩, Hk⟩
  iapply (wp_smemLoadElt 𝒱₀ (c : Thread nD τ) none Set.univ (m := sxM) (r := scR) (x := scIx) (Finset.subset_univ _)) $$ Hsx
  iintro Hsx
  iapply (wp_smemLoadElt 𝒱₀ (c : Thread nD τ) none Set.univ (m := swM) (r := scR) (x := scIx) (Finset.subset_univ _)) $$ Hsw
  iintro Hsw
  iapply (wp_finLane a K c false 0 m0 f)
  isplitr; · iexact Hrec
  isplitl [HSt]; · iexact HSt
  isplitl [Hp]; · iexact Hp
  isplitl [Ho]; · iexact Ho
  iintro ⟨HSt, Hp, Ho, Hs0⟩
  iapply (wp_finLane a K c true 0 m1 _)
  isplitr; · iexact Hrec
  isplitl [HSt]; · iexact HSt
  isplitl [Hp]; · iexact Hp
  isplitl [Ho]; · iexact Ho
  rw [p0]
  iintro ⟨HSt, Hp, Ho, Hs1⟩
  iapply (wp_finLane a K c false 1 m2 _)
  isplitr; · iexact Hrec
  isplitl [HSt]; · iexact HSt
  isplitl [Hp]; · iexact Hp
  isplitl [Ho]; · iexact Ho
  iintro ⟨HSt, Hp, Ho, Hs2⟩
  iapply (wp_finLane a K c true 1 m3 _)
  isplitr; · iexact Hrec
  isplitl [HSt]; · iexact HSt
  isplitl [Hp]; · iexact Hp
  isplitl [Ho]; · iexact Ho
  rw [p1]
  iintro ⟨HSt, Hp, Ho, Hs3⟩
  ihave HSt := (Entails.of_eq (show St (F := F) c ∅ ∅ = iprop(∃ W, owes (c : Thread nD τ) 0 W ∗ emp ∗ bigSep Finset.univ (Sent c) ∗ emp ∗ bigSep Finset.univ (Got c))
    by unfold St; rw [owedS_empty, Finset.compl_empty]; rfl)) $$ HSt
  icases HSt with ⟨%W, HO, -, HSent, -, HGot⟩
  iapply (wp_waitSends a K c 15 le_rfl)
  isplitr; · iexact Hrec
  isplitl [HO HSent]
  · unfold Wt
    iexists W
    rw [show 2 * (15 - 15) = 0 from rfl, pos_zero, Finset.compl_univ]
    isplitl [HO]; · iexact HO
    isplitl [HSent]; · iexact HSent
    iempintro
  iintro HW
  ihave HW := (Entails.of_eq (show Wt (F := F) c ∅ = iprop(∃ W, owes (c : Thread nD τ) 0 W ∗ emp ∗ bigSep Finset.univ (Gone c))
    by unfold Wt; rw [Finset.compl_empty]; rfl)) $$ HW
  icases HW with ⟨%W', HO, -, HGone⟩
  unfold WP
  rw [wp_ret]
  imodintro
  iapply Hk
  unfold Fin' scalePts
  isplitr [Hsx Hsw]
  · isplitl [HO]; · iexists W'; iexact HO
    isplitl [HGot]; · iexact HGot
    isplitl [HGone]; · iexact HGone
    isplitl [Hs0 Hs1 Hs2 Hs3]
    · isplitl [Hs0]; · iexact Hs0
      isplitl [Hs1]; · iexact Hs1
      isplitl [Hs2] <;> iassumption
    isplitl [Hp]; · iexact Hp
    rw [← putLanes_eq a c f]
    iexact Ho
  isplitl [Hsx] <;> iassumption

/-! ## The beginning -/

theorem off_zero : (![0, 0] : Fin 2 → Nat) = fun _ => 0 := funext fun k => by fin_cases k <;> rfl

/-- Filling a lane's slot 0 with its first block. -/
theorem wp_initLane (d : Bool) (s : Fin 2) (q : KProg F) (Q : PUnit → sProp 𝕄) :
    iprop((((c : Thread nD τ).loc cc0_stg0_0) ↦{fullShare} a.x c) ∗ slotAny c d 0 s
        ∗ (iprop((((c : Thread nD τ).loc cc0_stg0_0) ↦{fullShare} a.x c) ∗ slotPts c d 0 s (sentV a (d, 0, s) c)) -∗ WP c q Q))
      ⊢ WP c (initLane xM c (a.w c) d s q) Q := by
  unfold initLane
  iintro ⟨Hx, Hs, Hk⟩
  iapply (wp_load_rect 𝒱₀ (c : Thread nD τ) none Set.univ (m := xM) (r := startR d c) (Finset.subset_univ _)) $$ Hx
  iintro Hx
  iapply (wp_storeSlot c d 0 s)
  isplitl [Hs]; · iexact Hs
  iintro Hs
  iapply Hk
  isplitl [Hx]; · iexact Hx
  iexact Hs

/-- From the end of the barrier to the end. -/
theorem wp_main (f) (Q : PUnit → sProp 𝕄) :
    iprop(records a K ∗ St c Finset.univ Finset.univ ∗ (slotAny c false 0 0 ∗ slotAny c true 0 0 ∗ slotAny c false 0 1 ∗ slotAny c true 0 1)
        ∗ (∃ g, ((c : Thread nD τ).loc cc0_scratch0) ↦{fullShare} g) ∗ outPts c f ∗ opPts a c ∗ scalePts a c
        ∗ (iprop(Fin' a c ∗ opPts a c ∗ scalePts a c) -∗ Q ⟨⟩))
      ⊢ WP c (mainProg xM wM sxM swM oM c) Q := by
  have m0 : (false, (0 : Fin 15), (0 : Fin 2)) ∈ (Finset.univ : Finset Hop) := Finset.mem_univ _
  have m1 : (true, (0 : Fin 15), (0 : Fin 2)) ∈ (Finset.univ : Finset Hop).erase (false, (0 : Fin 15), (0 : Fin 2)) := by simp
  have m2 : (false, (0 : Fin 15), (1 : Fin 2)) ∈ pos 1 := mem_pos_false 0 1
  have m3 : (true, (0 : Fin 15), (1 : Fin 2)) ∈ (pos 1).erase (false, (0 : Fin 15), (1 : Fin 2)) := mem_pos_true 0 1
  have p0 : ((Finset.univ : Finset Hop).erase (false, (0 : Fin 15), (0 : Fin 2))).erase (true, (0 : Fin 15), (0 : Fin 2)) = pos 1 := pos_zero ▸ pos_succ 0 0
  have p1 : ((pos 1).erase (false, (0 : Fin 15), (1 : Fin 2))).erase (true, (0 : Fin 15), (1 : Fin 2)) = pos 2 := pos_succ 0 1
  unfold mainProg
  conv_lhs => enter [2, 2, 2, 2, 2, 1]; unfold opPts
  iintro ⟨#Hrec, HSt, ⟨Hs0, Hs1, Hs2, Hs3⟩, ⟨%g, Hp⟩, Ho, ⟨Hx, Hw⟩, Hsc, Hk⟩
  iapply (wp_load 𝒱₀ (c : Thread nD τ) none Set.univ (m := wM) (Finset.subset_univ _)) $$ Hw
  iintro Hw
  rw [show wM.view.readAt (Elt F) (Rect.unit (s := S256x2048) ![0, 0] S256x2048.size inb_S256x2048_S256x2048_0_0).toLoadRect (a.w c) = a.w c from
    Memref.readAt_unit_zero (Elt F) cc0_stg1_0 off_zero _ _]
  iapply (wp_initLane a c false 0)
  isplitl [Hx]; · iexact Hx
  isplitl [Hs0]; · iexact Hs0
  iintro ⟨Hx, Hs0⟩
  iapply (wp_initLane a c true 0)
  isplitl [Hx]; · iexact Hx
  isplitl [Hs1]; · iexact Hs1
  iintro ⟨Hx, Hs1⟩
  iapply (wp_initLane a c false 1)
  isplitl [Hx]; · iexact Hx
  isplitl [Hs2]; · iexact Hs2
  iintro ⟨Hx, Hs2⟩
  iapply (wp_initLane a c true 1)
  isplitl [Hx]; · iexact Hx
  isplitl [Hs3]; · iexact Hs3
  iintro ⟨Hx, Hs3⟩
  iapply (wp_sendHop a K c (false, 0, 0) m0)
  isplitr; · iexact Hrec
  isplitl [HSt]; · iexact HSt
  isplitl [Hs0]; · iexact Hs0
  iintro HSt
  iapply (wp_sendHop a K c (true, 0, 0) m1)
  isplitr; · iexact Hrec
  isplitl [HSt]; · iexact HSt
  isplitl [Hs1]; · iexact Hs1
  rw [p0]
  iintro HSt
  iapply (wp_sendHop a K c (false, 0, 1) m2)
  isplitr; · iexact Hrec
  isplitl [HSt]; · iexact HSt
  isplitl [Hs2]; · iexact Hs2
  iintro HSt
  iapply (wp_sendHop a K c (true, 0, 1) m3)
  isplitr; · iexact Hrec
  isplitl [HSt]; · iexact HSt
  isplitl [Hs3]; · iexact Hs3
  rw [p1]
  iintro HSt
  iapply (wp_load 𝒱₀ (c : Thread nD τ) none Set.univ (m := xM) (Finset.subset_univ _)) $$ Hx
  iintro Hx
  rw [show xM.view.readAt (Elt F) (Rect.unit (s := S4096x256) ![0, 0] S4096x256.size inb_S4096x256_S4096x256_0_0).toLoadRect (a.x c) = a.x c from
    Memref.readAt_unit_zero (Elt F) cc0_stg0_0 off_zero _ _]
  iapply (wp_load 𝒱₀ (c : Thread nD τ) none Set.univ (m := partM) (Finset.subset_univ _)) $$ Hp
  iintro Hp
  iapply (wp_store 𝒱₀ (c : Thread nD τ) none Set.univ (m := partM)
    (r := Rect.unit (s := S4096x2048) ![0, 0] S4096x2048.size inb_S4096x2048_S4096x2048_0_0) (Mk := Finset.univ) (S := Finset.univ) (Finset.subset_univ _)) $$ Hp
  iintro Hp
  rw [show (partM.access (Rect.unit (s := S4096x2048) ![0, 0] S4096x2048.size inb_S4096x2048_S4096x2048_0_0)).write (Elt F) g (k0_pay8 (k0_pay1 (a.w c)) (a.x c)) Finset.univ = partV a c from
    Memref.write_access_unit_zero_univ (Elt F) cc0_scratch0 off_zero _ _ _]
  iapply (wp_hops a K c 14 le_rfl)
  isplitr; · iexact Hrec
  isplitl [HSt]
  · rw [show 2 * (14 - 14) + 2 = 2 from rfl, show 2 * (14 - 14) = 0 from rfl, pos_zero]; iexact HSt
  isplitl [Hp]; · unfold partPts; iexact Hp
  iintro ⟨HSt, Hp⟩
  iapply (wp_tail a K c f)
  isplitr; · iexact Hrec
  isplitl [HSt]; · iexact HSt
  isplitl [Hp]; · iexact Hp
  isplitl [Ho]; · iexact Ho
  isplitl [Hsc]; · iexact Hsc
  iintro ⟨Hf, Hsc⟩
  iapply Hk
  isplitl [Hf]; · iexact Hf
  isplitr [Hsc]
  · unfold opPts; isplitl [Hx] <;> iassumption
  iexact Hsc

end Cert.KernelIdeal.Hand

end
-- ==== Proof.KernelIdeal.Body.lean ====
/- The whole body of the kernel: the communication buffers split into slots, the barrier, and the run after it. -/
module

public import proofs.«01_k».proof.Proof.KernelIdeal.Run
public import proofs.«01_k».proof.Proof.Gen.KernelIdeal.Points

@[expose] public section

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ

/-! ## Regrouping a conjunction -/

/-- The first of a finite range apart. -/
theorem bigSep_fin_first {n : ℕ} (Φ : Fin (n + 1) → sProp 𝕄) :
    bigSep Finset.univ Φ = iprop(Φ 0 ∗ bigSep Finset.univ fun i : Fin n => Φ i.succ) := by
  rw [Fin.univ_succ, Finset.cons_eq_insert, bigSep_insert (by simp), bigSep_map]
  rfl
/-- The last of a finite range apart. -/
theorem bigSep_fin_last {n : ℕ} (Φ : Fin (n + 1) → sProp 𝕄) :
    bigSep Finset.univ Φ = iprop(Φ (Fin.last n) ∗ bigSep Finset.univ fun i : Fin n => Φ i.castSucc) := by
  rw [Fin.univ_castSuccEmb, Finset.cons_eq_insert, bigSep_insert (by simp), bigSep_map]
  rfl
/-- Both directions. -/
theorem bigSep_dirs (Φ : Bool → sProp 𝕄) : bigSep Finset.univ Φ = iprop(Φ false ∗ Φ true) := by
  rw [bigSep_univ_eq_bigSepL [false, true] (by decide) (by decide), bigSepL_cons_cons, bigSepL_singleton]
  rfl
/-- A pair with a direction: both directions' parts. -/
theorem bigSep_dirs_prod {I : Type} [Fintype I] (Φ : Bool × I → sProp 𝕄) :
    bigSep Finset.univ Φ = iprop((bigSep Finset.univ fun i => Φ (false, i)) ∗ bigSep Finset.univ fun i => Φ (true, i)) := by
  rw [bigSep_univ_prod, bigSep_dirs]

/-! ## The communication buffers and their slots -/

/-- Device `c`'s communication buffer `d`, whatever it holds. -/
def commAny (c : Dev nD) : Bool → sProp 𝕄
  | false => iprop(∃ f, ((c : Thread nD τ).loc cc0_scratch1) ↦{fullShare} f)
  | true => iprop(∃ f, ((c : Thread nD τ).loc cc0_scratch2) ↦{fullShare} f)

/-- The slot an element of the buffer lies in. -/
def slotOf (i : S16x2x256x512.Idx) : Fin 16 × Fin 2 := (⟨(i 0).val, (i 0).isLt⟩, ⟨(i 1).val, (i 1).isLt⟩)
theorem mem_slotR (k : Fin 16) (s : Fin 2) (i : S16x2x256x512.Idx) : i ∈ (slotR k s).set ↔ slotOf i = (k, s) := by
  rw [Rect.mem_set_unit]
  unfold slotOf
  rw [Prod.mk.injEq, Fin.ext_iff, Fin.ext_iff]
  have h2 : (i 2).val < 256 := (i 2).isLt
  have h3 : (i 3).val < 512 := (i 3).isLt
  constructor
  · intro h
    have a0 : k.val ≤ (i 0).val ∧ (i 0).val < k.val + 1 := h 0
    have a1 : s.val ≤ (i 1).val ∧ (i 1).val < s.val + 1 := h 1
    exact ⟨by show (i 0).val = k.val; omega, by show (i 1).val = s.val; omega⟩
  · rintro ⟨h0, h1⟩ b
    have h0' : (i 0).val = k.val := h0
    have h1' : (i 1).val = s.val := h1
    fin_cases b
    · show k.val ≤ (i 0).val ∧ (i 0).val < k.val + 1; omega
    · show s.val ≤ (i 1).val ∧ (i 1).val < s.val + 1; omega
    · show 0 ≤ (i 2).val ∧ (i 2).val < 0 + 256; omega
    · show 0 ≤ (i 3).val ∧ (i 3).val < 0 + 512; omega
/-- Two slots share no element. -/
theorem slots_disjoint (b b' : Fin 16 × Fin 2) (h : b ≠ b') : Disjoint (slotR b.1 b.2).set (slotR b'.1 b'.2).set :=
  Finset.disjoint_left.2 fun i hi hi' => h (((mem_slotR _ _ i).1 hi).symm.trans ((mem_slotR _ _ i).1 hi'))
/-- The slots make up the whole buffer. -/
theorem slots_cover : (Finset.univ : Finset (Fin 16 × Fin 2)).biUnion (fun b => (slotR b.1 b.2).set) = Finset.univ :=
  Finset.eq_univ_iff_forall.2 fun i => Finset.mem_biUnion.2 ⟨slotOf i, Finset.mem_univ _, (mem_slotR _ _ i).2 rfl⟩

/-- The buffer holding slot `(k, s)`'s elements, by direction. -/
def slotPart (c : Dev nD) (ks : Fin 16 × Fin 2) : Bool → sProp 𝕄
  | false => iprop(∃ f, ((c : Thread nD τ).loc cc0_scratch1) ↦[(slotR ks.1 ks.2).set]{fullShare} f)
  | true => iprop(∃ f, ((c : Thread nD τ).loc cc0_scratch2) ↦[(slotR ks.1 ks.2).set]{fullShare} f)
theorem slotAny_part (c : Dev nD) (d : Bool) (ks : Fin 16 × Fin 2) : slotAny (F := F) c d ks.1 ks.2 = slotPart c ks d := by
  unfold slotAny slotPart
  cases d
  · rw [show (sV false ks.1 ks.2).set = (slotR ks.1 ks.2).set from View.set_slice_whole _ _]; rfl
  · rw [show (sV true ks.1 ks.2).set = (slotR ks.1 ks.2).set from View.set_slice_whole _ _]; rfl

/-- A communication buffer is its slots. -/
theorem comm_split (c : Dev nD) (d : Bool) :
    commAny (F := F) c d ⊢ bigSep Finset.univ fun ks : Fin 16 × Fin 2 => slotAny c d ks.1 ks.2 := by
  simp only [slotAny_part]
  cases d
  all_goals unfold commAny; iintro ⟨%f, H⟩
  · iapply (BIBase.Entails.trans (Entails.of_eq (Ring.pointsTo_blocks (ℓ := (c : Thread nD τ).loc cc0_scratch1)
        (fun b : Fin 16 × Fin 2 => (slotR b.1 b.2).set) slots_disjoint slots_cover f))
      (bigSep_mono fun ks _ => by
        show _ ⊢ iprop(∃ f, ((c : Thread nD τ).loc cc0_scratch1) ↦[(slotR ks.1 ks.2).set]{fullShare} f)
        iintro H; iexists f; iexact H)) $$ H
  · iapply (BIBase.Entails.trans (Entails.of_eq (Ring.pointsTo_blocks (ℓ := (c : Thread nD τ).loc cc0_scratch2)
        (fun b : Fin 16 × Fin 2 => (slotR b.1 b.2).set) slots_disjoint slots_cover f))
      (bigSep_mono fun ks _ => by
        show _ ⊢ iprop(∃ f, ((c : Thread nD τ).loc cc0_scratch2) ↦[(slotR ks.1 ks.2).set]{fullShare} f)
        iintro H; iexists f; iexact H)) $$ H
/-- The slots of a communication buffer make it up again. -/
theorem comm_join (c : Dev nD) (d : Bool) :
    (bigSep Finset.univ fun ks : Fin 16 × Fin 2 => slotAny (F := F) c d ks.1 ks.2) ⊢ commAny c d := by
  simp only [slotAny_part]
  unfold commAny slotPart
  cases d
  · exact Ring.pointsTo_blocks_join_exists (ℓ := (c : Thread nD τ).loc cc0_scratch1) (fun b : Fin 16 × Fin 2 => (slotR b.1 b.2).set) slots_disjoint slots_cover
      (fun _ => default)
  · exact Ring.pointsTo_blocks_join_exists (ℓ := (c : Thread nD τ).loc cc0_scratch2) (fun b : Fin 16 × Fin 2 => (slotR b.1 b.2).set) slots_disjoint slots_cover
      (fun _ => default)

/-- The slots with the first hop's apart. -/
theorem slots_first (c : Dev nD) (d : Bool) : (bigSep Finset.univ fun ks : Fin 16 × Fin 2 => slotAny (F := F) c d ks.1 ks.2)
    = iprop((slotAny c d 0 0 ∗ slotAny c d 0 1) ∗ bigSep Finset.univ fun js : Fin 15 × Fin 2 => slotAny c d js.1.succ js.2) := by
  rw [bigSep_univ_prod, bigSep_univ_prod, bigSep_fin_first, bigSep_univ_two]
/-- The slots with the last hop's apart. -/
theorem slots_last (c : Dev nD) (d : Bool) : (bigSep Finset.univ fun ks : Fin 16 × Fin 2 => slotAny (F := F) c d ks.1 ks.2)
    = iprop((slotAny c d 15 0 ∗ slotAny c d 15 1) ∗ bigSep Finset.univ fun js : Fin 15 × Fin 2 => slotAny c d js.1.castSucc js.2) := by
  rw [bigSep_univ_prod, bigSep_univ_prod, bigSep_fin_last, bigSep_univ_two]
  rfl

/-! ## The body -/

section Whole
variable (a : Args F) (K : Dev nD × CI → ℕ) (c : Dev nD)

/-- The rights device `c` starts with: its cells' positions, its neighbours' barrier duties and every copy's two duties. -/
def linear : sProp 𝕄 :=
  iprop(atPos ER (barCell c) 0 ∅ 0 ∗ (bigSep Finset.univ fun y : Bool × Hop => atPos ER (kcell (c, some y)) 0 ∅ 0)
    ∗ dutyTok ER (barCell (tgt true c)) 0 false ∗ dutyTok ER (barCell (tgt false c)) 0 true
    ∗ (bigSep Finset.univ fun x : Hop => dutyTok ER (sendCell c x) 0 false)
    ∗ (bigSep Finset.univ fun x : Hop => dutyTok ER (recvCell (tgt x.1 c) x) 0 false))
/-- What device `c` is promised: both neighbours' signals and every arrival. -/
def promised : sProp 𝕄 :=
  iprop(cred (tallyAt (barCell c) () 2) ∗ bigSep Finset.univ fun x : Hop => cred (tallyAt (recvCell c x) () N))
/-- Its three scratch buffers, whatever they hold. -/
def scratchAny : sProp 𝕄 :=
  iprop((∃ f, ((c : Thread nD τ).loc cc0_scratch0) ↦{fullShare} f) ∗ (∃ f, ((c : Thread nD τ).loc cc0_scratch1) ↦{fullShare} f)
    ∗ (∃ f, ((c : Thread nD τ).loc cc0_scratch2) ↦{fullShare} f))
/-- What it ends with: the scratch buffers, and every semaphore at zero. -/
def left : sProp 𝕄 :=
  iprop(scratchAny c ∗ (bigSep Finset.univ fun y : Bool × Hop => semVal (kcell (c, some y)) 0) ∗ semVal (barCell c) 0)

/-- The slots kept and the slots handed over, of both buffers. -/
theorem comm_hand (d : Bool) : commAny (F := F) c d ⊢ iprop((slotAny c d 0 0 ∗ slotAny c d 0 1) ∗ barPay (tgt (!d) c) d) := by
  refine (comm_split c d).trans (Entails.of_eq ((slots_first c d).trans ?_))
  unfold barPay
  have e : tgt d (tgt (!d) c) = c := by
    have h := tgt_tgt (!d) c
    rw [Bool.not_not] at h
    exact h
  rw [e]

/-- Signalling the neighbour in direction `d`: slots 1 to 15 of the other direction's buffer go with it. -/
theorem wp_handOver (d : Bool) (O : CellTallies nD τ sig Unit) (W) (q : KProg F) (Q : PUnit → sProp 𝕄) :
    iprop(records a K ∗ owes (c : Thread nD τ) (O + tallyAt (barCell (tgt d c)) () 1) W ∗ dutyTok ER (barCell (tgt d c)) 0 (!d)
        ∗ barPay (tgt d c) (!d) ∗ (owes (c : Thread nD τ) O W -∗ WP c q Q))
      ⊢ WP c (.op (.semSignal ((tgt d c : Dev nD), .tc) barSem (1#32 : BitVec 32).toInt) fun _ => q) Q := by
  iintro ⟨#Hrec, HO, Ht, Hp, Hk⟩
  iapply (Rounds.wp_signal 𝒱₀ ER (Rd a) (c : Thread nD τ) none (dst := (tgt d c : Thread nD τ)) (κ := K (tgt d c, none)) (d := !d)
    (show (!d) ∈ (Rd a).duties (kcell (tgt d c, none)) 0 by rw [duties_k]; exact Finset.mem_univ _)
    ((amount_k a (tgt d c) none (!d)).trans (by decide)) () O rfl) $$ [HO Ht Hp]
  · isplitr; · iapply (records_inv a K (tgt d c, none)); iexact Hrec
    isplitl [HO]; · iexact HO
    isplitl [Ht]; · iexact Ht
    isplitl [Hp]
    · iapply (Entails.of_eq (show barPay (tgt d c) (!d) = (Rd a).payload (barCell (tgt d c)) 0 (!d) from (payload_k a (tgt d c) none (!d)).symm)); iexact Hp
    iapply (records_reached a K (tgt d c, none)); iexact Hrec
  iexact Hk

/-- The rights to send, gathered lane hop by lane hop. -/
theorem tx_intro : iprop((bigSep Finset.univ fun x : Hop => dutyTok ER (sendCell c x) 0 false)
      ∗ (bigSep Finset.univ fun x : Hop => dutyTok ER (recvCell (tgt x.1 c) x) 0 false) ∗ (barPay (F := F) c false ∗ barPay c true)
      ∗ (bigSep Finset.univ fun x : Hop => atPos ER (sendCell c x) 0 ∅ 0)) ⊢ bigSep Finset.univ (Tx c) := by
  have e : (bigSep Finset.univ fun x : Hop => slotAny (F := F) (tgt x.1 c) x.1 x.2.1.succ x.2.2) = iprop(barPay c false ∗ barPay c true) := by
    rw [bigSep_dirs_prod]; rfl
  rw [← e, ← bigSep_sep', ← bigSep_sep', ← bigSep_sep']
  exact BI.Entails.refl _
/-- The rights to receive, gathered likewise. -/
theorem rx_intro : iprop((bigSep Finset.univ fun x : Hop => cred (tallyAt (recvCell c x) () N))
      ∗ (bigSep Finset.univ fun x : Hop => atPos ER (recvCell c x) 0 ∅ 0)) ⊢ (bigSep Finset.univ (Rx c) : sProp 𝕄) := by
  rw [← bigSep_sep']
  exact BI.Entails.refl _
/-- Nothing sent and nothing received yet. -/
theorem st_intro (W) : iprop(owes (c : Thread nD τ) (owedS c Finset.univ) W ∗ bigSep Finset.univ (Tx c) ∗ bigSep Finset.univ (Rx c))
    ⊢ (St c Finset.univ Finset.univ : sProp 𝕄) := by
  unfold St
  rw [Finset.compl_univ, bigSep_empty, bigSep_empty]
  iintro ⟨HO, HT, HR⟩
  iexists W
  isplitl [HO]; · iexact HO
  isplitl [HT]; · iexact HT
  isplitr; · iempintro
  isplitl [HR]; · iexact HR
  iempintro

/-- Every slot back: both buffers whole again. -/
theorem gone_elim : iprop(bigSep Finset.univ (Gone (F := F) c)
      ∗ (slotAny c false 15 0 ∗ slotAny c true 15 0 ∗ slotAny c false 15 1 ∗ slotAny c true 15 1))
    ⊢ iprop((bigSep Finset.univ fun x : Hop => semVal (sendCell c x) 0) ∗ commAny c false ∗ commAny c true) := by
  have e : (bigSep Finset.univ (Gone (F := F) c)) = iprop((bigSep Finset.univ fun x : Hop => semVal (sendCell c x) 0)
      ∗ (bigSep Finset.univ fun js : Fin 15 × Fin 2 => slotAny c false js.1.castSucc js.2)
      ∗ (bigSep Finset.univ fun js : Fin 15 × Fin 2 => slotAny c true js.1.castSucc js.2)) := by
    unfold Gone
    rw [bigSep_sep', bigSep_dirs_prod (fun x : Hop => slotAny c x.1 x.2.1.castSucc x.2.2)]
  rw [e]
  have j : ∀ d, iprop((slotAny (F := F) c d 15 0 ∗ slotAny c d 15 1) ∗ bigSep Finset.univ fun js : Fin 15 × Fin 2 => slotAny c d js.1.castSucc js.2)
      ⊢ commAny c d := fun d => (Entails.of_eq (slots_last c d).symm).trans (comm_join c d)
  iintro ⟨⟨Hz, Hf, Ht⟩, H0, H1, H2, H3⟩
  isplitl [Hz]; · iexact Hz
  isplitl [Hf H0 H2]
  · iapply (j false)
    isplitl [H0 H2]; · (isplitl [H0] <;> iassumption)
    iexact Hf
  iapply (j true)
  isplitl [H1 H3]; · (isplitl [H1] <;> iassumption)
  iexact Ht

/-- The whole body: what every device needs to run it, and what it leaves. -/
theorem wp_body (f) (W) (Q : PUnit → sProp 𝕄) :
    iprop(records a K ∗ linear c ∗ promised c ∗ scratchAny c ∗ owes (c : Thread nD τ) (O₀ c) W ∗ outPts c f ∗ opPts a c ∗ scalePts a c
        ∗ (iprop(left c ∗ (∃ W, owes (c : Thread nD τ) 0 W) ∗ outPts c (outAt a c) ∗ opPts a c ∗ scalePts a c) -∗ Q ⟨⟩))
      ⊢ WP c (rolled xM wM sxM swM oM) Q := by
  unfold rolled WP
  rw [wp_deviceId]
  conv_lhs => enter [2, 1]; unfold linear; rw [bigSep_dirs_prod]
  conv_lhs => enter [2, 2, 1]; unfold promised
  conv_lhs => enter [2, 2, 2, 1]; unfold scratchAny
  iintro ⟨#Hrec, ⟨HatB, ⟨HatS, HatR⟩, HtT, HtF, HtS, HtR⟩, ⟨HcB, HcR⟩, ⟨Hp, Hcf, Hct⟩, HO, Ho, Hops, Hsc, Hk⟩
  ihave Hcf := (show iprop(∃ f, ((c : Thread nD τ).loc cc0_scratch1) ↦{fullShare} f)
    ⊢ iprop((slotAny (F := F) c false 0 0 ∗ slotAny c false 0 1) ∗ barPay (tgt true c) (!true)) from comm_hand c false) $$ Hcf
  ihave Hct := (show iprop(∃ f, ((c : Thread nD τ).loc cc0_scratch2) ↦{fullShare} f)
    ⊢ iprop((slotAny (F := F) c true 0 0 ∗ slotAny c true 0 1) ∗ barPay (tgt false c) (!false)) from comm_hand c true) $$ Hct
  icases Hcf with ⟨⟨Hf0, Hf1⟩, Hpf⟩
  icases Hct with ⟨⟨Ht0, Ht1⟩, Hpt⟩
  iapply (wp_handOver a K c true (O₁ c) W)
  isplitr; · iexact Hrec
  isplitl [HO]; · iexact HO
  isplitl [HtT]; · iexact HtT
  isplitl [Hpf]; · iexact Hpf
  iintro HO
  iapply (wp_handOver a K c false (owedS c Finset.univ) W)
  isplitr; · iexact Hrec
  isplitl [HO]; · iexact HO
  isplitl [HtF]; · iexact HtF
  isplitl [Hpt]; · iexact Hpt
  iintro HO
  iapply (Rounds.wp_wait_rest_token 𝒱₀ ER (Rd a) (c : Thread nD τ) none (κ := K (c, none))
      (wpE_semWait_eq 𝒱₀ (c : Thread nD τ) none Set.univ) (Set.mem_univ _) () (O := owedS c Finset.univ) (W := W) (R := 0) (m := 0) (T := ∅)
      (by rw [expect_bar]; decide)) $$ [HcB HO HatB]
  · isplitr; · iapply (records_inv a K (c, none)); iexact Hrec
    isplitl [HcB]; · iexact HcB
    isplitl [HO]; · iexact HO
    isplitr; · iapply (records_mayWait_bar a K c); iexact Hrec
    iexact HatB
  iintro ⟨HO, HatB, -, Hpay⟩
  ihave Hpay := (Entails.of_eq (rest_bar a c)) $$ Hpay
  imod (Rounds.cell_close ER (Rd a) (Set.mem_univ (K (c, none))) (fun h => h) (R := 0 + 1) (duties_later a (barCell c))) $$ [HatB] with HzB
  · isplitr; · iapply (records_inv a K (c, none)); iexact Hrec
    iexact HatB
  ihave HT := (tx_intro (F := F) c) $$ [HtS HtR Hpay HatS]
  · isplitl [HtS]; · iexact HtS
    isplitl [HtR]; · iexact HtR
    isplitl [Hpay]; · iexact Hpay
    iexact HatS
  ihave HR := (rx_intro (F := F) c) $$ [HcR HatR]
  · isplitl [HcR]; · iexact HcR
    iexact HatR
  ihave HSt := (st_intro (F := F) c _) $$ [HO HT HR]
  · isplitl [HO]; · iexact HO
    isplitl [HT]; · iexact HT
    iexact HR
  iapply (wp_main a K c f)
  isplitr; · iexact Hrec
  isplitl [HSt]; · iexact HSt
  isplitl [Hf0 Hf1 Ht0 Ht1]
  · isplitl [Hf0]; · iexact Hf0
    isplitl [Ht0]; · iexact Ht0
    isplitl [Hf1]; · iexact Hf1
    iexact Ht1
  isplitl [Hp]; · iexact Hp
  isplitl [Ho]; · iexact Ho
  isplitl [Hops]; · iexact Hops
  isplitl [Hsc]; · iexact Hsc
  conv_lhs => skip
  iintro ⟨HF, Hops, Hsc⟩
  ihave HF := (Entails.of_eq (show Fin' a c = iprop((∃ W, owes (c : Thread nD τ) 0 W) ∗ bigSep Finset.univ (Got (F := F) c) ∗ bigSep Finset.univ (Gone (F := F) c)
    ∗ (slotAny c false 15 0 ∗ slotAny c true 15 0 ∗ slotAny c false 15 1 ∗ slotAny c true 15 1)
    ∗ partPts a c ∗ outPts c (outAt a c)) from rfl)) $$ HF
  icases HF with ⟨HO, HG, HL, Hsl, Hp, Ho⟩
  ihave HL := (gone_elim (F := F) c) $$ [HL Hsl]
  · isplitl [HL] <;> iassumption
  icases HL with ⟨Hz, Hf, Ht⟩
  iapply Hk
  isplitr [HO Ho Hops Hsc]
  · unfold left scratchAny
    isplitl [Hp Hf Ht]
    · isplitl [Hp]
      · iexists (partV a c); unfold partPts; iexact Hp
      isplitl [Hf]
      · iapply (show commAny (F := F) c false ⊢ iprop(∃ f, ((c : Thread nD τ).loc cc0_scratch1) ↦{fullShare} f) from BI.Entails.refl _); iexact Hf
      iapply (show commAny (F := F) c true ⊢ iprop(∃ f, ((c : Thread nD τ).loc cc0_scratch2) ↦{fullShare} f) from BI.Entails.refl _); iexact Ht
    isplitr [HzB]
    · iapply (Entails.of_eq (bigSep_dirs_prod (fun y : Bool × Hop => (semVal (kcell (c, some y)) 0 : sProp 𝕄))).symm)
      isplitl [Hz]; · iexact Hz
      iexact HG
    iexact HzB
  isplitl [HO]; · iexact HO
  isplitl [Ho]; · iexact Ho
  isplitl [Hops] <;> iassumption

end Whole

end Cert.KernelIdeal.Hand

end
-- ==== Proof.KernelIdeal.Obligation.lean ====
/- The body as the pipeline runs it: what it starts from, what it leaves, and that it meets the pipeline's obligation. -/
module

public import proofs.«01_k».proof.Proof.KernelIdeal.Body

@[expose] public section

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ

variable (m : (ℓ : Loc nD τ sig) → Buf (Elt F) ℓ) (ρ : Dev nD → PrngReg)

/-- The state at launch: any memory, every semaphore at zero. -/
def s₀ : MemSt nD τ sig (Elt F) := ⟨m, fun _ => 0, ρ⟩

/-- The staged arguments, read from the launch memory. -/
def argsOf : Args F where
  x c := (win0_0.blk (0 : Fin 1)).view.read (Elt F) ((s₀ m ρ).mem ((c : Thread nD τ).loc main_arg0))
  w c := (win0_1.blk (0 : Fin 1)).view.read (Elt F) ((s₀ m ρ).mem ((c : Thread nD τ).loc main_arg1))
  sx c := (win0_2.blk (0 : Fin 1)).view.read (Elt F) ((s₀ m ρ).mem ((c : Thread nD τ).loc main_arg2))
  sw c := (win0_3.blk (0 : Fin 1)).view.read (Elt F) ((s₀ m ρ).mem ((c : Thread nD τ).loc main_arg3))

/-- What device `c`'s body starts from besides its buffers. -/
def start (c : Dev nD) : sProp 𝕄 := iprop(∃ K, records (argsOf m ρ) K ∗ linear c ∗ promised c)
def Φ₀ (c : Dev nD) : sProp 𝕄 := iprop(start m ρ c ∗ scratchAny c)

/-- The pipeline's data: the arrays at launch, what each staging buffer holds after the body, and what the body holds
    and owes around its one point. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => (argsOf m ρ).x c
    | ⟨1, _⟩ => (argsOf m ρ).w c
    | ⟨2, _⟩ => (argsOf m ρ).sx c
    | ⟨3, _⟩ => (argsOf m ρ).sw c
    | ⟨4, _⟩ => outAt (argsOf m ρ) c
  Φ t := match t with
    | ⟨0, _⟩ => Φ₀ m ρ c
    | ⟨_ + 1, _⟩ => left c
  q _ := fullShare
  owed t := match t with
    | ⟨0, _⟩ => O₀ c
    | ⟨_ + 1, _⟩ => 0

/-- A whole staging buffer holding `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

theorem owns_stg (c : Dev nD) (b : Ref sig .tc) (X : b.ty.Contents (Elt F)) :
    (owns (Ix := Unit) (Name := ℕ) (U := UU) (Lvl := ℕ) (c : Thread nD τ) (Memref.whole b) fullShare X : sProp 𝕄) = stg c b X := by
  unfold owns; simp only [Memref.view_whole, View.read_whole, View.set_whole]

set_option maxRecDepth 8000 in
/-- Before the body: its start, what it owes, and the five staging buffers. -/
def bodyPre (c : Dev nD) : sProp 𝕄 :=
  iprop(Φ₀ m ρ c ∗ (dats m ρ 0 c).owesAt () t0_0.castSucc
    ∗ (∃ d, stg c cc0_stg0_0 ((dats m ρ 0 c).before (0 : Fin 5) t0_0 d)) ∗ (∃ d, stg c cc0_stg1_0 ((dats m ρ 0 c).before (1 : Fin 5) t0_0 d))
    ∗ (∃ d, stg c cc0_stg2_0 ((dats m ρ 0 c).before (2 : Fin 5) t0_0 d)) ∗ (∃ d, stg c cc0_stg3_0 ((dats m ρ 0 c).before (3 : Fin 5) t0_0 d))
    ∗ (∃ d, stg c cc0_stg4_0 ((dats m ρ 0 c).before (4 : Fin 5) t0_0 d)))
/-- After it: the operands' and the scales' buffers as they were, the result's holding the result. -/
def bodyPost (c : Dev nD) : sProp 𝕄 :=
  iprop(left c ∗ (dats m ρ 0 c).owesAt () t0_0.succ ∗ stg c cc0_stg0_0 ((argsOf m ρ).x c) ∗ stg c cc0_stg1_0 ((argsOf m ρ).w c)
    ∗ stg c cc0_stg2_0 ((argsOf m ρ).sx c) ∗ stg c cc0_stg3_0 ((argsOf m ρ).sw c) ∗ stg c cc0_stg4_0 (outAt (argsOf m ρ) c))

set_option maxRecDepth 8000 in
/-- The body runs from the one to the other. -/
theorem sound_body (c : Dev nD) : bodyPre m ρ c ⊢ WP c (rolled xM wM sxM swM oM) (fun _ => bodyPost m ρ c) := by
  unfold bodyPre Φ₀ start
  iintro ⟨⟨⟨%K, #Hrec, Hlin, Hpr⟩, Hscr⟩, Ho, ⟨%d0, %g0, %hg0, H0⟩, ⟨%d1, %g1, %hg1, H1⟩, ⟨%d2, %g2, %hg2, H2⟩, ⟨%d3, %g3, %hg3, H3⟩, ⟨%d4, %g4, %hg4, H4⟩⟩
  have h0 : g0 = (argsOf m ρ).x c := by rw [hg0]; unfold Dat.before; rw [if_pos (fetch0_0 t0_0)]; rfl
  have h1 : g1 = (argsOf m ρ).w c := by rw [hg1]; unfold Dat.before; rw [if_pos (fetch0_1 t0_0)]; rfl
  have h2 : g2 = (argsOf m ρ).sx c := by rw [hg2]; unfold Dat.before; rw [if_pos (fetch0_2 t0_0)]; rfl
  have h3 : g3 = (argsOf m ρ).sw c := by rw [hg3]; unfold Dat.before; rw [if_pos (fetch0_3 t0_0)]; rfl
  subst h0 h1 h2 h3
  unfold Dat.owesAt Pipeline.owesWithin
  icases Ho with ⟨%W, %hW, HO⟩
  rw [show (dats m ρ 0 c).owed t0_0.castSucc = O₀ c from rfl]
  iapply (wp_body (argsOf m ρ) K c g4 W (fun _ => bodyPost m ρ c))
  isplitr; · iexact Hrec
  isplitl [Hlin]; · iexact Hlin
  isplitl [Hpr]; · iexact Hpr
  isplitl [Hscr]; · iexact Hscr
  isplitl [HO]; · iexact HO
  isplitl [H4]; · (unfold outPts; iexact H4)
  isplitl [H0 H1]
  · unfold opPts
    isplitl [H0]; · iexact H0
    iexact H1
  isplitl [H2 H3]
  · unfold scalePts
    isplitl [H2]; · iexact H2
    iexact H3
  unfold outPts opPts scalePts
  iintro ⟨HL, ⟨%W', HO⟩, H4, ⟨H0, H1⟩, ⟨H2, H3⟩⟩
  unfold bodyPost Dat.owesAt Pipeline.owesWithin
  rw [show (dats m ρ 0 c).owed t0_0.succ = 0 from rfl]
  isplitl [HL]; · iexact HL
  isplitl [HO]
  · iexists W'
    isplitr; · (ipureintro; exact fun _ _ => Or.inl trivial)
    iexact HO
  isplitl [H0]; · (iexists _; isplitr; · (ipureintro; rfl)
                   iexact H0)
  isplitl [H1]; · (iexists _; isplitr; · (ipureintro; rfl)
                   iexact H1)
  isplitl [H2]; · (iexists _; isplitr; · (ipureintro; rfl)
                   iexact H2)
  isplitl [H3]; · (iexists _; isplitr; · (ipureintro; rfl)
                   iexact H3)
  iexists _; isplitr; · (ipureintro; rfl)
  iexact H4

/-- The windows one by one. -/
theorem bigSep_W (Φ : Fin cfg0.W → sProp 𝕄) :
    bigSep Finset.univ Φ = iprop(Φ (0 : Fin 5) ∗ Φ (1 : Fin 5) ∗ Φ (2 : Fin 5) ∗ Φ (3 : Fin 5) ∗ Φ (4 : Fin 5)) := bigSep_W0 Φ

set_option maxRecDepth 65536 in
/-- The pipeline's obligation on the body, on every device. -/
theorem body_obligation (c : Dev nD) : BodyObligation (dats (F := F) m ρ 0 c) (defs₀ (F := F)) 𝒱₀ () Set.univ := fun t => by
  rw [fin_N0 t]
  rw [bigSep_W, bigSep_W]
  simp only [owns_stg]
  have hb := sound_body m ρ c
  unfold WP at hb
  rw [← body_eq_rolled xM (Memref.isWhole_whole _) wM (Memref.isWhole_whole _) sxM (Memref.isWhole_whole _) swM (Memref.isWhole_whole _) oM (Memref.isWhole_whole _)] at hb
  exact hb

end Cert.KernelIdeal.Hand

end
-- ==== Proof.KernelIdeal.Launch.lean ====
/- The launch: the rings' ghost state made and dealt to the devices, the launch credit, and the run of the whole program. -/
module

public import proofs.«01_k».proof.Proof.KernelIdeal.Obligation
public import Idealize.ShloMosaic.Lib.Pipeline.CollectiveSegs

@[expose] public section

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ

variable (m : (ℓ : Loc nD τ sig) → Buf (Elt F) ℓ) (ρ : Dev nD → PrngReg)

/-! ## The semaphores -/

/-- The kernel's own semaphores: every lane hop's two. -/
abbrev osem (y : Bool × Hop) : SemLoc sig := csem (some y)

theorem osem_scoped : ∀ y : Bool × Hop, (osem y).isScoped .tc = true := by decide +kernel
/-- No staging semaphore is a lane hop's. -/
theorem dec_stage : ∀ (w : Fin 5) (s : Fin (spec0 w).nbuf), decS (.dma ((spec0 w).sem s)) = none := by decide
theorem ownSemFacts : Pipeline.OwnSemFacts cfg0.spec osem where
  isScoped := osem_scoped
  inj y y' h := Option.some.inj (csem_inj h)
  disj y w s h := by
    have e := (decS_csem (some y)).symm.trans ((congrArg decS h).trans (dec_stage w s))
    cases e

theorem share_eq (c : Dev nD) (w : Fin cfg0.W) : (dats m ρ 0 c).share w = fullShare := by unfold Dat.share; split <;> rfl

theorem unscopedSems0_eq (c : Dev nD) : (unscopedSems0 c : sProp 𝕄) = semVal (barCell c) 0 := by
  unfold unscopedSems0; rw [bigSep_eq_bigSepL_of_eq [SemLoc.reg barSem] (by decide) (by decide)]; rfl

/-- Over a device's cells: its barrier's, and the lane hops'. -/
theorem bigSep_cells (Φ : CI → sProp 𝕄) :
    bigSep Finset.univ Φ = iprop(Φ none ∗ bigSep Finset.univ fun y : Bool × Hop => Φ (some y)) := by
  rw [show (Finset.univ : Finset CI) = insert none (Finset.univ.map Function.Embedding.some) from Finset.ext fun k => by cases k <;> simp,
    bigSep_insert (by simp), bigSep_map]
  rfl

/-! ## The ghost state -/

/-- Every cell of every device. -/
def ringCells : Finset (GSem nD τ sig) := Finset.univ.map ⟨kcell, kcell_inj⟩

/-- A duty of a device's own cells: its barrier's two, and each copy's one. -/
abbrev Tok := Bool ⊕ (Bool × Hop)
def tokCell : Tok → CI | .inl _ => none | .inr y => some y
def tokDuty : Tok → Bool | .inl d => d | .inr _ => false
def tokOf (ct : Dev nD × Tok) : GSem nD τ sig × ℕ × Bool := (kcell (ct.1, tokCell ct.2), 0, tokDuty ct.2)
theorem tokOf_inj : Function.Injective tokOf := fun ⟨c, t⟩ ⟨c', t'⟩ h => by
  have h1 := kcell_inj (congrArg Prod.fst h)
  have h2 : tokDuty t = tokDuty t' := congrArg (fun x : GSem nD τ sig × ℕ × Bool => x.2.2) h
  have h3 : tokCell t = tokCell t' := congrArg Prod.snd h1
  have h4 : t = t' := by
    rcases t with d | y <;> rcases t' with d' | y'
    · exact congrArg Sum.inl h2
    · cases h3
    · cases h3
    · exact congrArg Sum.inr (Option.some.inj h3)
  rw [show c = c' from congrArg Prod.fst h1, h4]
/-- Every duty of every cell. -/
def ringToks : Finset (GSem nD τ sig × ℕ × Bool) := Finset.univ.map ⟨tokOf, tokOf_inj⟩

def u₀ : UU := (initOf (Pipeline.cells cfgs cellOf_inj) (Pipeline.launchToks cfgs cellOf_inj), initOf ringCells ringToks)

/-- The duty tokens of device `c`'s own cells. -/
def toks (c : Dev nD) : sProp 𝕄 :=
  iprop((dutyTok ER (barCell c) 0 false ∗ dutyTok ER (barCell c) 0 true)
    ∗ (bigSep Finset.univ fun x : Hop => dutyTok ER (sendCell c x) 0 false) ∗ (bigSep Finset.univ fun x : Hop => dutyTok ER (recvCell c x) 0 false))
/-- The tokens of the duties device `c` pays: its neighbours' barriers, its own departures, its neighbours' arrivals. -/
def payToks (c : Dev nD) : sProp 𝕄 :=
  iprop(dutyTok ER (barCell (tgt true c)) 0 false ∗ dutyTok ER (barCell (tgt false c)) 0 true
    ∗ (bigSep Finset.univ fun x : Hop => dutyTok ER (sendCell c x) 0 false)
    ∗ (bigSep Finset.univ fun x : Hop => dutyTok ER (recvCell (tgt x.1 c) x) 0 false))

/-- What the launch deals a device: its cells' state, its positions in them, and their duty tokens. -/
def G (c : Dev nD) : sProp 𝕄 :=
  iprop((bigSep Finset.univ fun k : CI => roundState ER (Rd (argsOf m ρ)) (kcell (c, k)) 0)
    ∗ (bigSep Finset.univ fun k : CI => iprop(atPos ER (kcell (c, k)) 0 ∅ 0 ∗ reached ER (kcell (c, k)) 0)) ∗ toks c)

/-- What every device knows of the cells. -/
def known (K : Dev nD × CI → ℕ) : sProp 𝕄 :=
  iprop(bigSep Finset.univ (fun ck => cellInv ER (Rd (argsOf m ρ)) (K ck) (kcell ck)) ∗ bigSep Finset.univ (fun ck => reached ER (kcell ck) 0))
instance known_persistent (K : Dev nD × CI → ℕ) : BI.Persistent (known m ρ K) := by unfold known; infer_instance
/-- What it has once all cells are set up. -/
def G' (c : Dev nD) : sProp 𝕄 := iprop(∃ K, known m ρ K ∗ linear c)

/-- The launch element makes every device's share. -/
theorem fund_ring : BI.own (ER (initOf ringCells ringToks)) ⊢ (|==> bigSep Finset.univ (G m ρ) : sProp 𝕄) := by
  have hX (Φ : GSem nD τ sig → sProp 𝕄) : bigSep ringCells Φ = bigSep Finset.univ fun c : Dev nD => bigSep Finset.univ fun k : CI => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    refine bigSep_congr fun c _ => ?_
    unfold toks
    rw [bigSep_univ_sum, bigSep_dirs, bigSep_dirs_prod]
    rfl
  iintro HX
  imod (Rounds.fund ER (Rd (argsOf m ρ)) ringCells ringToks) $$ HX with ⟨Hst, Hr, Hat, Htok⟩
  imodintro
  ihave Hst' := (Entails.of_eq (hX fun g => roundState ER (Rd (argsOf m ρ)) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-- All of a device's semaphores, at zero. -/
theorem sems0 (c : Dev nD) :
    iprop(Pipeline.ownSems0 (Ix := Unit) (Name := ℕ) (U := UU) (Lvl := ℕ) (Val := Elt F) (τ := τ) osem c ∗ unscopedSems0 c)
      ⊢ (bigSep Finset.univ fun k : CI => semVal (kcell (c, k)) 0 : sProp 𝕄) := by
  rw [unscopedSems0_eq, bigSep_cells]
  unfold Pipeline.ownSems0
  iintro ⟨HS, HB⟩
  isplitl [HB]; · iexact HB
  iexact HS

/-- A device's cells set up. -/
theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (Rd (argsOf m ρ)) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0 (F := F) c) $$ [Hos Hus]
  · isplitl [Hos] <;> iassumption
  imod (show iprop((bigSep Finset.univ fun k : CI => semVal (kcell (c, k)) 0) ∗ bigSep Finset.univ fun k : CI => roundState ER (Rd (argsOf m ρ)) (kcell (c, k)) 0)
      ⊢ (|={Set.univ}=> bigSep Finset.univ fun k => iprop(∃ κ : ℕ, cellInv ER (Rd (argsOf m ρ)) κ (kcell (c, k))) : sProp 𝕄) from by
        rw [← bigSep_sep']
        exact (bigSep_mono fun k _ => (Rounds.body_intro ER (Rd (argsOf m ρ)) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- The tokens dealt around the rings: each goes to the device that pays its duty. -/
theorem toks_around : (bigSep Finset.univ fun c : Dev nD => (toks c : sProp 𝕄)) ⊢ bigSep Finset.univ fun c : Dev nD => payToks c := by
  have e : (bigSep Finset.univ fun c : Dev nD => bigSep Finset.univ fun x : Hop => (dutyTok ER (recvCell c x) 0 false : sProp 𝕄))
      = bigSep Finset.univ fun c : Dev nD => bigSep Finset.univ fun x : Hop => (dutyTok ER (recvCell (tgt x.1 c) x) 0 false : sProp 𝕄) := by
    rw [bigSep_univ_comm, bigSep_univ_comm (fun c (x : Hop) => (dutyTok ER (recvCell (tgt x.1 c) x) 0 false : sProp 𝕄))]
    exact bigSep_congr fun x _ => bigSep_univ_equiv (ring x.1) (fun c => (dutyTok ER (recvCell c x) 0 false : sProp 𝕄))
  unfold toks payToks
  rw [bigSep_sep', bigSep_sep', bigSep_sep', bigSep_sep', bigSep_sep', bigSep_sep', e,
    bigSep_univ_equiv (ring true) (fun c : Dev nD => (dutyTok ER (barCell c) 0 false : sProp 𝕄)),
    bigSep_univ_equiv (ring false) (fun c : Dev nD => (dutyTok ER (barCell c) 0 true : sProp 𝕄))]
  iintro ⟨⟨H1, H2⟩, H3, H4⟩
  isplitl [H1]; · iexact H1
  isplitl [H2]; · iexact H2
  isplitl [H3]; · iexact H3
  iexact H4

/-- A device's positions and the tokens it pays with make up its rights. -/
theorem linear_intro (c : Dev nD) : iprop((bigSep Finset.univ fun k : CI => atPos ER (kcell (c, k)) 0 ∅ 0) ∗ payToks c) ⊢ (linear c : sProp 𝕄) := by
  unfold linear payToks
  rw [bigSep_cells]
  iintro ⟨⟨H1, H2⟩, H3, H4, H5, H6⟩
  isplitl [H1]; · iexact H1
  isplitl [H2]; · iexact H2
  isplitl [H3]; · iexact H3
  isplitl [H4]; · iexact H4
  isplitl [H5] <;> iassumption

theorem ghost_intro (K : Dev nD × CI → ℕ) (c : Dev nD) : iprop(known m ρ K ∗ linear c) ⊢ G' m ρ c := by
  unfold G'; iintro H; iexists K; iexact H

/-- All devices' cells known to all, and each with its own rights. -/
theorem regroup :
    (bigSep Finset.univ fun c : Dev nD => iprop((bigSep Finset.univ fun k => iprop(∃ κ : ℕ, cellInv ER (Rd (argsOf m ρ)) κ (kcell (c, k))))
          ∗ (bigSep Finset.univ fun k => iprop(atPos ER (kcell (c, k)) 0 ∅ 0 ∗ reached ER (kcell (c, k)) 0)) ∗ toks c) : sProp 𝕄)
      ⊢ bigSep Finset.univ (G' m ρ) := by
  rw [bigSep_sep', bigSep_sep', ← bigSep_univ_prod (fun ck : Dev nD × CI => iprop(∃ κ : ℕ, cellInv ER (Rd (argsOf m ρ)) κ (kcell ck))),
    bigSep_congr (s := Finset.univ) (fun (c : Dev nD) _ => bigSep_sep' Finset.univ (fun k : CI => (atPos ER (kcell (c, k)) 0 ∅ 0 : sProp 𝕄)) (fun k => reached ER (kcell (c, k)) 0)),
    bigSep_sep', ← bigSep_univ_prod (fun ck : Dev nD × CI => (reached ER (kcell ck) 0 : sProp 𝕄))]
  iintro ⟨HI, ⟨Hat, #HR⟩, Htok⟩
  ihave HK := (BI.bigSep_exists_pi Finset.univ (fun (ck : Dev nD × CI) (κ : ℕ) => (cellInv ER (Rd (argsOf m ρ)) κ (kcell ck) : sProp 𝕄))) $$ HI
  icases HK with ⟨%K, #HI⟩
  ihave Htk := (toks_around (F := F)) $$ Htok
  iapply (bigSep_with_persistent (R := known m ρ K) fun c _ => ghost_intro m ρ K c)
  isplitr
  · unfold known; isplitl; · iexact HI
    iexact HR
  iapply ((Entails.of_eq (bigSep_sep' Finset.univ (fun c : Dev nD => bigSep Finset.univ fun k : CI => (atPos ER (kcell (c, k)) 0 ∅ 0 : sProp 𝕄)) payToks).symm).trans
      (bigSep_mono fun c _ => linear_intro c))
  isplitl [Hat]; · iexact Hat
  iexact Htk

/-- Every device's semaphores and share at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The launch credit -/

/-- A tally at one cell, read at another. -/
theorem tally_k (c c' : Dev nD) (k k' : CI) (n : ℕ) :
    tallyAt (Ix := Unit) (kcell (c', k')) () n (kcell (c, k)) () = if c' = c ∧ k' = k then n else 0 := by
  rw [tallyAt_apply]
  by_cases h : c' = c ∧ k' = k
  · rw [h.1, h.2, if_pos ⟨rfl, rfl⟩, if_pos ⟨rfl, rfl⟩]
  · rw [if_neg h, if_neg fun h' => h ?_]
    have e := kcell_inj h'.1
    exact ⟨(congrArg Prod.fst e).symm, (congrArg Prod.snd e).symm⟩
theorem tgt_eq_iff (d : Bool) (c c' : Dev nD) : tgt d c' = c ↔ c' = src d c :=
  ⟨fun h => by rw [← h, src_tgt], fun h => by rw [h, tgt_src]⟩

theorem owed_apply (c' c : Dev nD) (k : CI) : O₀ c' (kcell (c, k)) ()
    = (∑ x : Hop, if tgt x.1 c' = c ∧ some (true, x) = k then N else 0) + (if tgt false c' = c ∧ none = k then 1 else 0)
      + (if tgt true c' = c ∧ none = k then 1 else 0) := by
  unfold O₀ O₁ owedS
  rw [Pi.add_apply, Finsupp.add_apply, Pi.add_apply, Finsupp.add_apply, Finset.sum_apply, Finsupp.finset_sum_apply,
    show (∑ x : Hop, (tallyAt (recvCell (tgt x.1 c') x) () N (kcell (c, k))) ()) = _ from
      Finset.sum_congr rfl fun x _ => tally_k c (tgt x.1 c') k (some (true, x)) N]
  exact congrArg₂ _ (congrArg₂ _ rfl (tally_k c (tgt false c') k none 1)) (tally_k c (tgt true c') k none 1)

/-- A barrier cell is owed a unit by each neighbour; -/
theorem owed_bar (c' c : Dev nD) : O₀ c' (barCell c) () = (if c' = src false c then 1 else 0) + (if c' = src true c then 1 else 0) := by
  refine (owed_apply c' c none).trans ?_
  rw [Finset.sum_eq_zero fun x _ => if_neg fun h => Option.some_ne_none _ h.2, Nat.zero_add]
  simp only [_root_.and_true, tgt_eq_iff]
/-- an arrival cell its copy's amount, by the device before. -/
theorem owed_recv (c' c : Dev nD) (x : Hop) : O₀ c' (recvCell c x) () = if c' = src x.1 c then N else 0 := by
  refine (owed_apply c' c (some (true, x))).trans ?_
  rw [if_neg (fun h => Option.some_ne_none _ h.2.symm), if_neg (fun h => Option.some_ne_none _ h.2.symm), Finset.sum_eq_single x
    (fun y _ hy => if_neg fun h => hy (congrArg Prod.snd (Option.some.inj h.2))) (fun h => absurd (Finset.mem_univ x) h)]
  simp only [_root_.and_true, tgt_eq_iff, Nat.add_zero]

theorem launch_bar (c : Dev nD) :
    tallyOn (barCell c) (launchCredit (Pipeline.owing O₀) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_ite_eq' Finset.univ (src false c) fun _ => 1, Finset.sum_ite_eq' Finset.univ (src true c) fun _ => 1, if_pos (Finset.mem_univ _), if_pos (Finset.mem_univ _)]
theorem launch_recv (c : Dev nD) (x : Hop) :
    tallyOn (recvCell c x) (launchCredit (Pipeline.owing O₀) 0 (recvCell c x)) = (tallyAt (recvCell c x) () N : CellTallies nD τ sig Unit) := by
  unfold tallyAt; refine congrArg _ (Finsupp.ext fun u => ?_); cases u
  rw [Pipeline.launchCredit_owing, Finsupp.single_eq_same, Finset.sum_congr rfl fun d _ => owed_recv d c x,
    Finset.sum_ite_eq' Finset.univ (src x.1 c) fun _ => N, if_pos (Finset.mem_univ _)]

/-- The launch promises every device its two signals and its arrivals. -/
theorem creds (c : Dev nD) : (Pipeline.launchCred O₀ c : sProp 𝕄) ⊢ promised c := by
  unfold Pipeline.launchCred promised
  rw [bigSep_univ_at _ (SemLoc.reg barSem), launch_bar]
  refine sep_mono_right ?_
  let e : Hop ↪ SemLoc sig := ⟨fun x => csem (some (true, x)), fun x y h => congrArg Prod.snd (Option.some.inj (csem_inj h))⟩
  refine (bigSep_subset (t := Finset.univ.map e) fun s hs => ?_).trans ?_
  · obtain ⟨x, -, rfl⟩ := Finset.mem_map.1 hs
    exact Finset.mem_erase.mpr ⟨fun h => Option.some_ne_none _ (csem_inj (show csem (some (true, x)) = csem none from h)), Finset.mem_univ _⟩
  · rw [bigSep_map]
    exact bigSep_mono fun x _ => Entails.of_eq (congrArg cred (launch_recv c x))

/-! ## The theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  unfold G'
  iintro ⟨-, #Hlev, Hcr, -, ⟨%K, #Hkn, Hlin⟩⟩
  ihave Hc := (creds (F := F) c) $$ Hcr
  imodintro
  unfold start
  isplitl
  · iexists K
    isplitr
    · unfold known
      unfold records
      icases Hkn with ⟨#HI, #HR⟩
      isplitr; · iexact HI
      isplitr; · iexact HR
      iexact Hlev
    isplitl [Hlin]; · iexact Hlin
    iexact Hc
  iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ scratchAny
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = left c from rfl, scopedRest0_eq, unscopedSems0_eq]
  unfold left scratchAny Pipeline.ownSems0
  iintro ⟨Hr, Hz, HzB⟩
  isplitl [HzB]; · iexact HzB
  isplitl [Hz]; · iexact Hz
  iexact Hr

/-- The staging waits are in order: they lie below everything owed. -/
theorem waits (c : Dev nD) : (levAts L lv : sProp 𝕄) ⊢ Pipeline.cellsWaits cfgs (dats m ρ) () 0 c :=
  Pipeline.cellsWaits_intro cfgs (dats m ρ) () 0 c fun w s t =>
    mayWait_of c _ _ fun g u hg => by
      have hd : decS (.dma ((spec0 w).sem s)) = none := dec_stage w s
      rcases t with ⟨_ | _, ht⟩
      · obtain ⟨c', k, h1, h2⟩ := O₀_pos (c := c) (g := g) (u := u) hg
        exact ⟨c', k, h1, by rw [show decS _ = none from hd]; exact h2⟩
      · exact absurd hg (Nat.lt_irrefl 0)

/-! ## The run -/

/-- An array after the run. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 65536 in
/-- From any memory with every semaphore at zero, every fair execution of the program on sixteen devices ends, with each
    device's arrays as `finalA` states and every semaphore back at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_ring m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The arguments' arrays are as they were. -/
theorem finalA_in (c : Dev nD) (w : Fin cfg0.W) (h : (cfg0.win w).isOut = false) : finalA m ρ c w = (s₀ m ρ).mem ((cfg0.win w).arr.view.loc (c : Thread nD τ)) :=
  (dats (F := F) m ρ 0 c).arrAt_in w h _

/-- **The frame.** Every fair execution ends with the arguments as they were and every semaphore back at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨fun c => ⟨(h.1 c 0).trans (finalA_in m ρ c 0 rfl), (h.1 c 1).trans (finalA_in m ρ c 1 rfl),
    (h.1 c 2).trans (finalA_in m ρ c 2 rfl), (h.1 c 3).trans (finalA_in m ρ c 3 rfl)⟩, h.2⟩) (run_main m ρ)

end Cert.KernelIdeal.Hand

end
-- ==== Proof.KernelIdeal.Partial.lean ====
/- What the kernel leaves, over exact arithmetic, as sums over the ring.

   A lane's running block is the sum of the products of the devices it has passed, so the block that
   has gone round the ring is the sum over all devices.  `outAt_apply` states it for each element of
   the result. -/
module

public import proofs.«01_k».proof.Proof.KernelIdeal.Contents
public import Idealize.ShloMosaic.Lib.MatmulPlain
public import Idealize.ShloMosaic.Lib.ValueIdx
public import Idealize.ShloMosaic.Lib.Pipeline.Value

@[expose] public section

noncomputable section

namespace Cert.KernelIdeal.Hand

open Cert.KernelIdeal Cert.KernelIdeal.Gen
open Idealize.ShloMosaic Idealize.ShloMosaic.TcCoe Idealize.ShloMosaic.ValueIdx
open scoped BigOperators

/-! ## Rows, columns and devices -/

/-- Row `i` of the `b`-th block of 256 rows. -/
def rowIx (b : Fin 16) (i : Fin 256) : Fin 4096 := ⟨256 * b.val + i.val, by have := b.isLt; have := i.isLt; omega⟩

/-- Column `j` of a lane's quarter. -/
def colIx (d : Bool) (s : Fin 2) (j : Fin 512) : Fin 2048 :=
  ⟨laneCol d s + j.val, by have h := laneCol_inb d s 1; have : laneCol d s + 512 ≤ 2048 := h; have := j.isLt; omega⟩

/-- The block of rows that device `c` handles on hop `n` of a direction. -/
def blk (d : Bool) (n : Nat) (c : Dev nD) : Fin 16 :=
  ⟨match d with | false => (c.val + 15 * (n + 1)) % 16 | true => (c.val + (n + 1)) % 16, by cases d <;> exact Nat.mod_lt _ (by decide)⟩

/-- The device `n` hops back from `c` in a direction. -/
def back (d : Bool) (n : Nat) (c : Dev nD) : Dev nD :=
  ⟨match d with | false => (c.val + 15 * n) % 16 | true => (c.val + n) % 16, by cases d <;> exact Nat.mod_lt _ (by decide)⟩

theorem back_zero (d : Bool) (c : Dev nD) : back d 0 c = c := by
  have hc : c.val < 16 := c.isLt
  refine Fin.ext ?_
  cases d
  · show (c.val + 15 * 0) % 16 = c.val; omega
  · show (c.val + 0) % 16 = c.val; omega

/-- One hop further back is the same number of hops back from the sender. -/
theorem back_src (d : Bool) (n : Nat) (c : Dev nD) : back d n (src d c) = back d (n + 1) c := by
  refine Fin.ext ?_
  cases d
  · show ((tgt true c).val + 15 * n) % 16 = (c.val + 15 * (n + 1)) % 16
    rw [tgt_true_val]; omega
  · show ((tgt false c).val + n) % 16 = (c.val + (n + 1)) % 16
    rw [tgt_false_val]; omega

/-- The sender handled on hop `n` the block the receiver handles on the next hop. -/
theorem blk_src (d : Bool) (n : Nat) (c : Dev nD) : blk d n (src d c) = blk d (n + 1) c := by
  refine Fin.ext ?_
  cases d
  · show ((tgt true c).val + 15 * (n + 1)) % 16 = (c.val + 15 * (n + 1 + 1)) % 16
    rw [tgt_true_val]; omega
  · show ((tgt false c).val + (n + 1)) % 16 = (c.val + (n + 1 + 1)) % 16
    rw [tgt_false_val]; omega

/-- The last block a device handles is its own. -/
theorem blk_own (d : Bool) (c : Dev nD) : blk d 15 c = c := by
  have hc : c.val < 16 := c.isLt
  refine Fin.ext ?_
  cases d
  · show (c.val + 15 * (15 + 1)) % 16 = c.val; omega
  · show (c.val + (15 + 1)) % 16 = c.val; omega

/-- Sixteen hops back visit every device once, so a sum over them is a sum over the devices. -/
theorem sum_back (d : Bool) (c : Dev nD) (f : Dev nD → EReal) : ∑ m ∈ Finset.range 16, f (back d m c) = ∑ e : Dev nD, f e := by
  rw [Finset.sum_range]
  refine Fintype.sum_bijective (fun m : Fin 16 => back d m.val c) ?_ _ _ fun _ => rfl
  refine (Fintype.bijective_iff_injective_and_card _).2 ⟨fun m n h => ?_, rfl⟩
  have hm := m.isLt
  have hn := n.isLt
  have hv : (back d m.val c).val = (back d n.val c).val := congrArg Fin.val h
  refine Fin.ext ?_
  cases d
  · have hv' : (c.val + 15 * m.val) % 16 = (c.val + 15 * n.val) % 16 := hv
    omega
  · have hv' : (c.val + m.val) % 16 = (c.val + n.val) % 16 := hv
    omega

/-! ## The products -/

variable (a : Args Ideal)

/-- Device `e`'s part of entry `(i, j)` of the product. -/
def prod (e : Dev nD) (i : Fin 4096) (j : Fin 2048) : EReal :=
  ∑ k : Fin 256, (show FVec Ideal S4096x256 .fp8e4m3 from a.x e) (ix2 i k) * (show FVec Ideal S256x2048 .fp8e5m2 from a.w e) (ix2 k j)

/-- A device's local product, entry by entry. -/
theorem partV_apply (e : Dev nD) (i : Fin 4096) (j : Fin 2048) : partV a e (ix2 i j) = prod a e i j := by
  have hz : (0 : EReal) = Ideal.ofBits .f32 0x00000000#32 := by simp [Ideal.ofBits, Ideal.ieee]
  unfold partV k0_pay8 k0_pay1
  dsimp only
  rw [shapeCast_self, shapeCast_self, shapeCast_self]
  exact (Ideal.matmul_plain_apply none _ _ _ i j).trans (by
    rw [show (constant (F := Ideal) S4096x2048 .f32 0x00000000#32) (ix2 i j) = 0 from hz.symm, zero_add]; rfl)

/-- Where a direction's first rows begin. -/
theorem startOff_eq (d : Bool) (c : Dev nD) : startOff d c = ![256 * (blk d 0 c).val, 0] := by
  cases d
  · exact k0_off1_eq c
  · exact k0_off2_eq c

/-- Where the block added on hop `r + 1` begins. -/
theorem addOff_eq (d : Bool) (s : Fin 2) (c : Dev nD) (r : Fin 14) :
    addOff d s c r = ![256 * (blk d (r.val + 1) c).val, laneCol d s] := by
  have hr := r.isLt
  have hc : c.val < 16 := c.isLt
  have h1 : (c.val + 14 - r.val) % 16 = (c.val + 15 * (r.val + 1 + 1)) % 16 := by omega
  have h2 : (c.val + r.val + 2) % 16 = (c.val + (r.val + 1 + 1)) % 16 := by omega
  cases d <;> fin_cases s
  · exact (k0_off3_eq c r).trans (congrArg (fun n : Nat => ![256 * n, 0]) h1)
  · exact (k0_off5_eq c r).trans (congrArg (fun n : Nat => ![256 * n, 512]) h1)
  · exact (k0_off4_eq c r).trans (congrArg (fun n : Nat => ![256 * n, 1024]) h2)
  · exact (k0_off6_eq c r).trans (congrArg (fun n : Nat => ![256 * n, 1536]) h2)

/-- Where the block added last begins. -/
theorem ownOff_eq (d : Bool) (s : Fin 2) (c : Dev nD) : ownOff d s c = ![256 * c.val, laneCol d s] := by
  cases d <;> fin_cases s
  exacts [k0_off7_eq c, k0_off9_eq c, k0_off8_eq c, k0_off10_eq c]

/-- An entry of a rectangle whose offsets are known sits at the offsets plus its own place. -/
theorem emb_unit {m n p q : Nat} {off : Fin 2 → Nat} (inb : ∀ k, off k + (⟨2, ![p, q]⟩ : Shape).size k ≤ (⟨2, ![m, n]⟩ : Shape).size k)
    (i : Fin p) (j : Fin q) (I : Fin m) (J : Fin n) (h0 : off 0 + i.val = I.val) (h1 : off 1 + j.val = J.val) :
    (Rect.unit (s := ⟨2, ![m, n]⟩) off (⟨2, ![p, q]⟩ : Shape).size inb).emb (ix2 i j) = ix2 I J := by
  refine Shape.idx_ext₂ ?_ ?_
  · simpa using h0
  · simpa using h1

/-- The block added on hop `r + 1`, entry by entry. -/
theorem addV_apply (d : Bool) (s : Fin 2) (c : Dev nD) (r : Fin 14) (i : Fin 256) (j : Fin 512) :
    addV a d s c r (ix2 i j) = prod a c (rowIx (blk d (r.val + 1) c) i) (colIx d s j) := by
  refine Eq.trans ?_ (partV_apply a c _ _)
  exact congrArg (partV a c) (emb_unit (addOff_inb d s c r) i j _ _ (by rw [addOff_eq]; rfl) (by rw [addOff_eq]; rfl))

/-- The block added last, entry by entry. -/
theorem ownV_apply (d : Bool) (s : Fin 2) (c : Dev nD) (i : Fin 256) (j : Fin 512) :
    ownV a d s c (ix2 i j) = prod a c (rowIx c i) (colIx d s j) := by
  refine Eq.trans ?_ (partV_apply a c _ _)
  exact congrArg (partV a c) (emb_unit (ownOff_inb d s c) i j _ _ (by rw [ownOff_eq]; rfl) (by rw [ownOff_eq]; rfl))

/-- The block a lane carries, as a matrix. -/
def flat (v : Vec Ideal S1x1x256x512 .bf16) : FVec Ideal S256x512 .bf16 := shapeCast S256x512 v shapeCasts_S1x1x256x512_S256x512

/-- Some rows times some columns of the right operand, entry by entry. -/
theorem start_apply (col : Nat) (hs : S256x2048.Slices ![0, col] S256x512) (w : Vec Ideal S256x2048 .fp8e5m2) (x : Vec Ideal S256x256 .fp8e4m3)
    (i : Fin 256) (j : Fin 512) (J : Fin 2048) (hJ : J.val = col + j.val) :
    truncf (F := Ideal) .bf16 (matmul dot_S256x256_S256x512_S256x512_1_0_0_1_n_n none (extf .bf16 (shapeCast S256x256 x shapeCasts_S256x256_S256x256) bitsLt_fp8e4m3_bf16)
        (extractStridedSlice S256x512 ![0, col] (k0_pay1 w) hs) (constant S256x512 .f32 0x00000000#32)) bitsLt_bf16_f32 (ix2 i j)
      = ∑ k : Fin 256, (show FVec Ideal S256x256 .fp8e4m3 from x) (ix2 i k) * (show FVec Ideal S256x2048 .fp8e5m2 from w) (ix2 k J) := by
  have hz : (0 : EReal) = Ideal.ofBits .f32 0x00000000#32 := by simp [Ideal.ofBits, Ideal.ieee]
  unfold k0_pay1
  dsimp only
  rw [shapeCast_self, shapeCast_self]
  refine (Ideal.matmul_plain_apply none _ _ _ i j).trans ?_
  rw [show (constant (F := Ideal) S256x512 .f32 0x00000000#32) (ix2 i j) = 0 from hz.symm, zero_add]
  refine Finset.sum_congr rfl fun k _ => ?_
  refine congrArg₂ (fun y z : EReal => y * z) rfl ?_
  exact extractStridedSlice_apply ![0, col] _ hs (ix2 k j) (ix2 k J) fun b => by
    fin_cases b
    · exact (Nat.zero_add _).symm
    · exact hJ

/-- What a lane starts from, for any rows and any right operand, entry by entry. -/
theorem flat_initPay (d : Bool) (s : Fin 2) (w : Vec Ideal S256x2048 .fp8e5m2) (x : Vec Ideal S256x256 .fp8e4m3) (i : Fin 256) (j : Fin 512) :
    flat (initPay d s w x) (ix2 i j)
      = ∑ k : Fin 256, (show FVec Ideal S256x256 .fp8e4m3 from x) (ix2 i k) * (show FVec Ideal S256x2048 .fp8e5m2 from w) (ix2 k (colIx d s j)) := by
  unfold flat
  cases d <;> fin_cases s <;> unfold initPay
  · show shapeCast S256x512 (k0_pay3 (k0_pay2 w x)) _ _ = _
    unfold k0_pay3 k0_pay2
    dsimp only
    rw [shapeCast_shapeCast]
    exact start_apply 0 _ w x i j _ rfl
  · show shapeCast S256x512 (k0_pay5 (k0_pay1 w) x) _ _ = _
    unfold k0_pay5
    dsimp only
    rw [shapeCast_shapeCast]
    exact start_apply 512 _ w x i j _ rfl
  · show shapeCast S256x512 (k0_pay4 (k0_pay1 w) x) _ _ = _
    unfold k0_pay4
    dsimp only
    rw [shapeCast_shapeCast]
    exact start_apply 1024 _ w x i j _ rfl
  · show shapeCast S256x512 (k0_pay7 (k0_pay6 (k0_pay1 w) x)) _ _ = _
    unfold k0_pay7 k0_pay6
    dsimp only
    rw [shapeCast_shapeCast]
    exact start_apply 1536 _ w x i j _ rfl

/-- What a lane starts from, entry by entry. -/
theorem flat_initV (d : Bool) (s : Fin 2) (c : Dev nD) (i : Fin 256) (j : Fin 512) :
    flat (initV a d s c) (ix2 i j) = prod a c (rowIx (blk d 0 c) i) (colIx d s j) := by
  have hx : ∀ k : Fin 256, (show FVec Ideal S256x256 .fp8e4m3 from (xM.access (startR d c)).read (Elt Ideal) (a.x c)) (ix2 i k)
      = (show FVec Ideal S4096x256 .fp8e4m3 from a.x c) (ix2 (rowIx (blk d 0 c) i) k) := fun k =>
    congrArg (a.x c) (emb_unit (startOff_inb d c) i k _ _ (by rw [startOff_eq]; rfl) (by rw [startOff_eq]; exact Nat.zero_add _))
  exact (flat_initPay d s (a.w c) _ i j).trans (Finset.sum_congr rfl fun k _ => congrArg (fun y : EReal => y * _) (hx k))

/-- Adding a block to what arrived, entry by entry. -/
theorem flat_pay9 (v : Vec Ideal S1x1x256x512 .bf16) (w : FVec Ideal S256x512 .bf16) (y : S256x512.Idx) :
    flat (k0_pay9 v w) y = flat v y + w y :=
  congrFun (shapeCast_shapeCast _ _ _) y

/-- **What is sent on hop `n`** is the sum of the parts of the devices the block has passed. -/
theorem flat_sentN (d : Bool) (s : Fin 2) (n : Nat) (hn : n ≤ 14) (c : Dev nD) (i : Fin 256) (j : Fin 512) :
    flat (sentN a d s n c) (ix2 i j)
      = ∑ m ∈ Finset.range (n + 1), prod a (back d m c) (rowIx (blk d n c) i) (colIx d s j) := by
  induction n generalizing c with
  | zero =>
    rw [Finset.sum_range_one, back_zero]
    exact flat_initV a d s c i j
  | succ n ih =>
    have h := sentN_succ a d s ⟨n, hn⟩ c
    rw [show sentN a d s (n + 1) c = _ from h, flat_pay9, ih (by omega), addV_apply, blk_src, Finset.sum_range_succ' _ (n + 1), back_zero]
    simp only [back_src]

/-- **A quarter of the result**, entry by entry: the sum over all devices, times the scales. -/
theorem laneV_apply (d : Bool) (s : Fin 2) (c : Dev nD) (i : Fin 256) (j : Fin 512) :
    laneV a d s c (ix2 i j) = (∑ e : Dev nD, prod a e (rowIx c i) (colIx d s j)) * scaleV a c := by
  have h : laneV a d s c (ix2 i j) = (flat (sentN a d s 14 (src d c)) (ix2 i j) + ownV a d s c (ix2 i j)) * scaleV a c := rfl
  rw [h, flat_sentN a d s 14 (le_refl _), ownV_apply, blk_src, blk_own]
  simp only [back_src]
  rw [← sum_back d c, Finset.sum_range_succ' _ 15, back_zero]

/-- **The result block** of a device, entry by entry: the sum over all devices, times the scales. -/
theorem outAt_apply (c : Dev nD) (i : Fin 256) (j : Fin 2048) :
    (show FVec Ideal S256x2048 .f32 from outAt a c) (ix2 i j) = (∑ e : Dev nD, prod a e (rowIx c i) j) * scaleV a c := by
  have hj := j.isLt
  obtain ⟨d, s, j', rfl⟩ : ∃ d s j', j = colIx d s j' := by
    have hq : j.val / 512 = 0 ∨ j.val / 512 = 1 ∨ j.val / 512 = 2 ∨ j.val / 512 = 3 := by omega
    have hm : j.val % 512 < 512 := Nat.mod_lt _ (by decide)
    rcases hq with h | h | h | h
    · exact ⟨false, 0, ⟨j.val % 512, hm⟩, Fin.ext (by show j.val = 0 + j.val % 512; omega)⟩
    · exact ⟨false, 1, ⟨j.val % 512, hm⟩, Fin.ext (by show j.val = 512 + j.val % 512; omega)⟩
    · exact ⟨true, 0, ⟨j.val % 512, hm⟩, Fin.ext (by show j.val = 1024 + j.val % 512; omega)⟩
    · exact ⟨true, 1, ⟨j.val % 512, hm⟩, Fin.ext (by show j.val = 1536 + j.val % 512; omega)⟩
  rw [← laneV_apply, ← read_outAt a d s c]
  exact congrArg (outAt a c) (emb_unit (laneCol_inb d s) i j' _ _ (Nat.zero_add _) rfl).symm

end Cert.KernelIdeal.Hand

end
-- ==== Proof.KernelIdeal.Final.lean ====
/- The kernel's result array after the run, over exact arithmetic, as a function of the arguments'
   arrays.

   Each window is a whole array, so what a device stages is its argument and what it leaves is its
   result. -/
module

public import proofs.«01_k».proof.Proof.KernelIdeal.Launch
public import proofs.«01_k».proof.Proof.KernelIdeal.Partial

@[expose] public section

noncomputable section

namespace Cert.KernelIdeal.Hand

open Cert.KernelIdeal Cert.KernelIdeal.Gen
open Idealize.ShloMosaic Idealize.ShloMosaic.TcCoe Idealize.ShloMosaic.ValueIdx Idealize.SL.Sem
open scoped BigOperators

/-- A one-entry array's only index. -/
abbrev only : S1.Idx := ix1 0

/-- Any two indices of a one-entry array are the same. -/
theorem only_eq (i : S1.Idx) : i = only := by
  funext b
  match b with
  | ⟨0, _⟩ => exact Subsingleton.elim (α := Fin 1) _ _

/-- The grid's one point. -/
abbrev pt : Fin cfg0.N := ⟨0, by decide⟩

theorem index0 : win0_0.index pt (0 : Fin 2) = 0 ∧ win0_0.index pt (1 : Fin 2) = 0 := by decide +kernel
theorem index1 : win0_1.index pt (0 : Fin 2) = 0 ∧ win0_1.index pt (1 : Fin 2) = 0 := by decide +kernel
theorem index4 : win0_4.index pt (0 : Fin 2) = 0 ∧ win0_4.index pt (1 : Fin 2) = 0 := by decide +kernel

theorem place0 (j : S4096x256.Idx) : ((cfg0.win 0).blk pt).view.emb j = j := by
  refine Shape.idx_ext₂ ?_ ?_
  · show win0_0.index pt (0 : Fin 2) * 4096 + 1 * (j 0).val = (j 0).val; have := index0.1; omega
  · show win0_0.index pt (1 : Fin 2) * 256 + 1 * (j 1).val = (j 1).val; have := index0.2; omega
theorem place1 (j : S256x2048.Idx) : ((cfg0.win 1).blk pt).view.emb j = j := by
  refine Shape.idx_ext₂ ?_ ?_
  · show win0_1.index pt (0 : Fin 2) * 256 + 1 * (j 0).val = (j 0).val; have := index1.1; omega
  · show win0_1.index pt (1 : Fin 2) * 2048 + 1 * (j 1).val = (j 1).val; have := index1.2; omega
theorem place4 (j : S256x2048.Idx) : ((cfg0.win 4).blk pt).view.emb j = j := by
  refine Shape.idx_ext₂ ?_ ?_
  · show win0_4.index pt (0 : Fin 2) * 256 + 1 * (j 0).val = (j 0).val; have := index4.1; omega
  · show win0_4.index pt (1 : Fin 2) * 2048 + 1 * (j 1).val = (j 1).val; have := index4.2; omega

section Staged

variable {F : FTy → Type} [FloatOps F]
variable (m : (ℓ : Loc nD τ sig) → Buf (Elt F) ℓ) (ρ : Dev nD → PrngReg)

/-- What a device stages of the left operand is its array. -/
theorem argsOf_x (c : Dev nD) : (argsOf m ρ).x c = m ((c : Thread nD τ).loc main_arg0) :=
  funext fun j => congrArg (m ((c : Thread nD τ).loc main_arg0)) (place0 j)
/-- What a device stages of the right operand is its array. -/
theorem argsOf_w (c : Dev nD) : (argsOf m ρ).w c = m ((c : Thread nD τ).loc main_arg1) :=
  funext fun j => congrArg (m ((c : Thread nD τ).loc main_arg1)) (place1 j)
/-- The scale a device uses is the product of its two scales. -/
theorem argsOf_scale (c : Dev nD) : scaleV (argsOf m ρ) c
    = Scalar.mulf (m ((c : Thread nD τ).loc main_arg2) only) (m ((c : Thread nD τ).loc main_arg3) only) :=
  congrArg₂ Scalar.mulf (congrArg (m ((c : Thread nD τ).loc main_arg2)) (only_eq _)) (congrArg (m ((c : Thread nD τ).loc main_arg3)) (only_eq _))

/-- What every two points write back is disjoint: there is one point. -/
theorem disjoint_out : ∀ t t' : Fin cfg0.N, (cfg0.win 4).flush t = true → (cfg0.win 4).flush t' = true → t ≠ t' →
    Disjoint ((cfg0.win 4).blk t).view.set ((cfg0.win 4).blk t').view.set :=
  fun t t' _ _ h => absurd (Subsingleton.elim (α := Fin 1) t t') h

/-- The result array after the run is what the body left. -/
theorem finalA_out (c : Dev nD) (y : S256x2048.Idx) :
    (show Vec F S256x2048 .f32 from finalA m ρ c 4) y = (show Vec F S256x2048 .f32 from outAt (argsOf m ρ) c) y := by
  have b := congrFun ((dats m ρ 0 c).read_blk_arrAt_eq_flushed 4 disjoint_out cfg0.N pt pt.isLt rfl) y
  have b' : finalA m ρ c 4 (((cfg0.win 4).blk pt).view.emb y) = outAt (argsOf m ρ) c y := b
  rw [place4] at b'
  exact b'

end Staged

/-- **The result array of a device**, entry by entry: the sum of all devices' products, times the two scales. -/
theorem finalA_apply (m : (ℓ : Loc nD τ sig) → Buf (Elt Ideal) ℓ) (ρ : Dev nD → PrngReg) (c : Dev nD) (i : Fin 256) (j : Fin 2048) :
    (show FVec Ideal S256x2048 .f32 from finalA m ρ c 4) (ix2 i j)
      = (∑ e : Dev nD, ∑ k : Fin 256, (show FVec Ideal S4096x256 .fp8e4m3 from m ((e : Thread nD τ).loc main_arg0)) (ix2 (rowIx c i) k)
            * (show FVec Ideal S256x2048 .fp8e5m2 from m ((e : Thread nD τ).loc main_arg1)) (ix2 k j))
          * Scalar.mulf (F := Ideal) (m ((c : Thread nD τ).loc main_arg2) only) (m ((c : Thread nD τ).loc main_arg3) only) := by
  refine (finalA_out m ρ c (ix2 i j)).trans ((outAt_apply (argsOf m ρ) c i j).trans ?_)
  refine congrArg₂ (fun y z : EReal => y * z) (Finset.sum_congr rfl fun e _ => ?_) (argsOf_scale m ρ c)
  unfold prod
  rw [argsOf_x, argsOf_w]

end Cert.KernelIdeal.Hand

end
-- ==== Proof.ReferenceIdeal.Product.lean ====
/- The reference's result over exact arithmetic: each entry is the sum over the 4096 inner positions,
   times the two scales.

   The reference has one grid point, at which each window's block is its whole array, and one store
   of the whole result. -/
module

public import proofs.«01_k».proof.Proof.Gen.ReferenceIdeal.Value
public import Idealize.ShloMosaic.Lib.MatmulPlain
public import Idealize.ShloMosaic.Lib.ValueIdx
public import Idealize.ShloMosaic.Lib.Pipeline.Value

@[expose] public section

noncomputable section

namespace Cert.ReferenceIdeal.Hand

open Cert.ReferenceIdeal Cert.ReferenceIdeal.Gen Cert.ReferenceIdeal.Value
open Idealize.ShloMosaic Idealize.ShloMosaic.TcCoe Idealize.ShloMosaic.ValueIdx Idealize.SL.Sem
open scoped BigOperators

variable {F : FTy → Type} [FloatOps F]

/-- A one-entry array's only index. -/
abbrev only : S1.Idx := ix1 0

/-- Any two indices of a one-entry array are the same. -/
theorem only_eq (i : S1.Idx) : i = only := by
  funext b
  match b with
  | ⟨0, _⟩ => exact Subsingleton.elim (α := Fin 1) _ _

/-- The one store writes the payload of the four input blocks. -/
theorem stored (c : Dev nD) (b0 : Memref sig .tc .vmem S4096x4096 .fp8e4m3) (h0 : b0.IsWhole) (b1 : Memref sig .tc .vmem S4096x2048 .fp8e5m2)
    (h1 : b1.IsWhole) (b2 : Memref sig .tc .smem S1 .f32) (h2 : b2.IsWhole) (b3 : Memref sig .tc .smem S1 .f32) (h3 : b3.IsWhole)
    (b4 : Memref sig .tc .vmem S4096x2048 .f32) (h4 : b4.IsWhole)
    (x0 : Vec F S4096x4096 .fp8e4m3) (x1 : Vec F S4096x2048 .fp8e5m2) (x2 : Vec F S1 .f32) (x3 : Vec F S1 .f32) :
    out0_A_4 c b0 h0 b1 h1 b2 h2 b3 h3 b4 h4 x0 x1 x2 x3 = k0_pay1 x0 x1 (x2 only) (x3 only) := by
  have hz : (![0, 0] : Fin 2 → Nat) = fun _ => 0 := funext fun b => by fin_cases b <;> rfl
  unfold out0_A_4
  rw [View.read_writes_junk_eq_canon]
  show View.canon ([⟨Rect.unit ![0, 0] S4096x2048.size inb_S4096x2048_S4096x2048_0_0,
      k0_pay1
        (b0.view.readAt (Elt F) (Rect.unit ![0, 0] S4096x4096.size inb_S4096x4096_S4096x4096_0_0).toLoadRect (h0.unread x0))
        (b1.view.readAt (Elt F) (Rect.unit ![0, 0] S4096x2048.size inb_S4096x2048_S4096x2048_0_0).toLoadRect (h1.unread x1))
        (b2.view.readAt (Elt F) (Rect.unit (s := S1) ![0] S1.size inb_S1_S1_0).toLoadRect (h2.unread x2) _)
        (b3.view.readAt (Elt F) (Rect.unit (s := S1) ![0] S1.size inb_S1_S1_0).toLoadRect (h3.unread x3) _)⟩] :
      List (View.Piece (Elt F) S4096x2048 .f32)) = _
  rw [View.canon_unit_zero hz]
  simp only [View.readAt_eq_ld, h0.read_unread, h1.read_unread, h2.read_unread, h3.read_unread,
    View.ld_unit_zero (S := S4096x4096) hz, View.ld_unit_zero (S := S4096x2048) hz]
  exact congrArg₂ (k0_pay1 x0 x1) (congrArg x2 (only_eq _)) (congrArg x3 (only_eq _))

/-! ## The windows are whole arrays -/

/-- The grid's one point. -/
abbrev pt : Fin cfg0.N := ⟨0, by decide⟩

theorem index0 : win0_0.index pt (0 : Fin 2) = 0 ∧ win0_0.index pt (1 : Fin 2) = 0 := by decide +kernel
theorem index1 : win0_1.index pt (0 : Fin 2) = 0 ∧ win0_1.index pt (1 : Fin 2) = 0 := by decide +kernel
theorem index4 : win0_4.index pt (0 : Fin 2) = 0 ∧ win0_4.index pt (1 : Fin 2) = 0 := by decide +kernel

theorem place0 (j : S4096x4096.Idx) : ((cfg0.win 0).blk pt).view.emb j = j := by
  refine Shape.idx_ext₂ ?_ ?_
  · show win0_0.index pt (0 : Fin 2) * 4096 + 1 * (j 0).val = (j 0).val; have := index0.1; omega
  · show win0_0.index pt (1 : Fin 2) * 4096 + 1 * (j 1).val = (j 1).val; have := index0.2; omega
theorem place1 (j : S4096x2048.Idx) : ((cfg0.win 1).blk pt).view.emb j = j := by
  refine Shape.idx_ext₂ ?_ ?_
  · show win0_1.index pt (0 : Fin 2) * 4096 + 1 * (j 0).val = (j 0).val; have := index1.1; omega
  · show win0_1.index pt (1 : Fin 2) * 2048 + 1 * (j 1).val = (j 1).val; have := index1.2; omega
theorem place4 (j : S4096x2048.Idx) : ((cfg0.win 4).blk pt).view.emb j = j := by
  refine Shape.idx_ext₂ ?_ ?_
  · show win0_4.index pt (0 : Fin 2) * 4096 + 1 * (j 0).val = (j 0).val; have := index4.1; omega
  · show win0_4.index pt (1 : Fin 2) * 2048 + 1 * (j 1).val = (j 1).val; have := index4.2; omega

variable (m : (ℓ : Loc nD τ sig) → Buf (Elt F) ℓ)

theorem block0 (c : Dev nD) : iblk m c 0 pt = m ((c : Thread nD τ).loc main_arg0) :=
  funext fun j => congrArg (m ((c : Thread nD τ).loc main_arg0)) (place0 j)
theorem block1 (c : Dev nD) : iblk m c 1 pt = m ((c : Thread nD τ).loc main_arg1) :=
  funext fun j => congrArg (m ((c : Thread nD τ).loc main_arg1)) (place1 j)
theorem block2 (c : Dev nD) (i : S1.Idx) : iblk m c 2 pt i = m ((c : Thread nD τ).loc main_arg2) only :=
  congrArg (m ((c : Thread nD τ).loc main_arg2)) (only_eq _)
theorem block3 (c : Dev nD) (i : S1.Idx) : iblk m c 3 pt i = m ((c : Thread nD τ).loc main_arg3) only :=
  congrArg (m ((c : Thread nD τ).loc main_arg3)) (only_eq _)

/-- The result array after the reference's run, as the payload of its arguments. -/
theorem final (c : Dev nD) (y : S4096x2048.Idx) :
    (dats m 0 c).arrAt 4 cfg0.N y
      = k0_pay1 (m ((c : Thread nD τ).loc main_arg0)) (m ((c : Thread nD τ).loc main_arg1))
          (m ((c : Thread nD τ).loc main_arg2) only) (m ((c : Thread nD τ).loc main_arg3) only) y := by
  have b := congrFun (blocks4 m c pt rfl) y
  rw [flushed4_A, stored, block0, block1, block2, block3] at b
  have b' : (dats m 0 c).arrAt 4 cfg0.N (((cfg0.win 4).blk pt).view.emb y) = _ := b
  rw [place4] at b'
  exact b'

end Cert.ReferenceIdeal.Hand

namespace Cert.ReferenceIdeal.Hand

open Cert.ReferenceIdeal Cert.ReferenceIdeal.Gen Cert.ReferenceIdeal.Value
open Idealize.ShloMosaic Idealize.ShloMosaic.TcCoe Idealize.ShloMosaic.ValueIdx Idealize.SL.Sem
open scoped BigOperators

/-- The payload over exact arithmetic, entry by entry. -/
theorem pay_apply (x : FVec Ideal S4096x4096 .fp8e4m3) (w : FVec Ideal S4096x2048 .fp8e5m2) (sx sw : Ideal .f32) (i : Fin 4096) (j : Fin 2048) :
    k0_pay1 (F := Ideal) x w sx sw (ix2 i j) = (∑ k : Fin 4096, x (ix2 i k) * w (ix2 k j)) * (Scalar.mulf sx sw) := by
  have hz : (0 : EReal) = Ideal.ofBits .f32 0x00000000#32 := by simp [Ideal.ofBits, Ideal.ieee]
  unfold k0_pay1
  rw [mulf_apply, broadcast_apply]
  refine congrArg (fun y : EReal => y * _) ((Ideal.matmul_plain_apply none _ _ _ i j).trans ?_)
  rw [show (constant (F := Ideal) S4096x2048 .f32 0x00000000#32) (ix2 i j) = 0 from hz.symm, zero_add]
  rfl

end Cert.ReferenceIdeal.Hand

end
-- ==== Proof.Match.lean ====
/- The kernel's results are the blocks of the reference's, over exact arithmetic.

   The inner axis of 4096 positions is cut into sixteen blocks of 256, one a device, so the sum over
   the devices of each one's sum is the sum over the whole axis. -/
module

public import proofs.«01_k».proof.Proof.KernelIdeal.Final
public import proofs.«01_k».proof.Proof.ReferenceIdeal.Product
public import Idealize.ShloMosaic.Lib.Layout

@[expose] public section

noncomputable section

namespace Cert.Match

open Idealize.ShloMosaic Idealize.ShloMosaic.TcCoe Idealize.ShloMosaic.ValueIdx Idealize.SL.Sem
open scoped BigOperators

/-- Position `k` of block `e` of the inner axis. -/
def inner (e : Fin 16) (k : Fin 256) : Fin 4096 := ⟨e.val * 256 + k.val, by have := e.isLt; have := k.isLt; omega⟩

/-- A sum over the inner axis is the sum over its blocks. -/
theorem sum_inner (f : Fin 4096 → EReal) : ∑ e : Fin 16, ∑ k : Fin 256, f (inner e k) = ∑ k : Fin 4096, f k := by
  rw [← Fintype.sum_prod_type' fun e k => f (inner e k)]
  refine Fintype.sum_bijective (fun p : Fin 16 × Fin 256 => inner p.1 p.2) ⟨fun p q h => ?_, fun k => ?_⟩ _ _ fun _ => rfl
  · have hv : p.1.val * 256 + p.2.val = q.1.val * 256 + q.2.val := congrArg Fin.val h
    have hp := p.2.isLt
    have hq := q.2.isLt
    exact Prod.ext (Fin.ext (by omega)) (Fin.ext (by omega))
  · have hk := k.isLt
    exact ⟨⟨⟨k.val / 256, by omega⟩, ⟨k.val % 256, by omega⟩⟩, Fin.ext (by show k.val / 256 * 256 + k.val % 256 = k.val; omega)⟩

/-- A block of columns, entry by entry. -/
theorem block_cols (c : Fin 16) (v : FVec Ideal ⟨2, ![4096, 4096]⟩ .fp8e4m3) (i : Fin 4096) (k : Fin 256) :
    Layout.block ⟨2, ![4096, 256]⟩ ⟨2, ![4096, 4096]⟩ 1 16 c v (by decide) (ix2 i k) = v (ix2 i (inner c k)) :=
  congrArg v (Shape.idx_ext₂ rfl rfl)

/-- A block of rows, entry by entry. -/
theorem block_rows {φ : FTy} (c : Fin 16) (v : FVec Ideal ⟨2, ![4096, 2048]⟩ φ) (k : Fin 256) (j : Fin 2048) :
    Layout.block ⟨2, ![256, 2048]⟩ ⟨2, ![4096, 2048]⟩ 0 16 c v (by decide) (ix2 k j) = v (ix2 (inner c k) j) :=
  congrArg v (Shape.idx_ext₂ rfl rfl)

/-- **The kernel computes the reference.** With the arguments laid out as blocks, every device's result array is its
    block of the reference's result. -/
theorem kernel_block
    (m : (ℓ : Loc Cert.KernelIdeal.nD Cert.KernelIdeal.τ Cert.KernelIdeal.sig) → Buf (Elt Ideal) ℓ) (ρ : Dev Cert.KernelIdeal.nD → PrngReg)
    (m' : (ℓ : Loc Cert.ReferenceIdeal.nD Cert.ReferenceIdeal.τ Cert.ReferenceIdeal.sig) → Buf (Elt Ideal) ℓ)
    (h : ∀ c : Dev Cert.KernelIdeal.nD,
      m ((c : Thread Cert.KernelIdeal.nD Cert.KernelIdeal.τ).loc Cert.KernelIdeal.main_arg0)
          = Layout.block ⟨2, ![4096, 256]⟩ ⟨2, ![4096, 4096]⟩ 1 16 c (m' (((0 : Dev Cert.ReferenceIdeal.nD) : Thread Cert.ReferenceIdeal.nD Cert.ReferenceIdeal.τ).loc Cert.ReferenceIdeal.main_arg0))
      ∧ m ((c : Thread Cert.KernelIdeal.nD Cert.KernelIdeal.τ).loc Cert.KernelIdeal.main_arg1)
          = Layout.block ⟨2, ![256, 2048]⟩ ⟨2, ![4096, 2048]⟩ 0 16 c (m' (((0 : Dev Cert.ReferenceIdeal.nD) : Thread Cert.ReferenceIdeal.nD Cert.ReferenceIdeal.τ).loc Cert.ReferenceIdeal.main_arg1))
      ∧ m ((c : Thread Cert.KernelIdeal.nD Cert.KernelIdeal.τ).loc Cert.KernelIdeal.main_arg2)
          = m' (((0 : Dev Cert.ReferenceIdeal.nD) : Thread Cert.ReferenceIdeal.nD Cert.ReferenceIdeal.τ).loc Cert.ReferenceIdeal.main_arg2)
      ∧ m ((c : Thread Cert.KernelIdeal.nD Cert.KernelIdeal.τ).loc Cert.KernelIdeal.main_arg3)
          = m' (((0 : Dev Cert.ReferenceIdeal.nD) : Thread Cert.ReferenceIdeal.nD Cert.ReferenceIdeal.τ).loc Cert.ReferenceIdeal.main_arg3))
    (c : Dev Cert.KernelIdeal.nD) :
    Cert.KernelIdeal.Hand.finalA m ρ c 4
      = Layout.block ⟨2, ![256, 2048]⟩ ⟨2, ![4096, 2048]⟩ 0 16 c ((Cert.ReferenceIdeal.Gen.dats m' 0 0).arrAt 4 Cert.ReferenceIdeal.cfg0.N) := by
  funext y
  obtain ⟨i, j, rfl⟩ : ∃ (i : Fin 256) (j : Fin 2048), y = ix2 i j := ⟨_, _, eq_ix2 y⟩
  refine (Cert.KernelIdeal.Hand.finalA_apply m ρ c i j).trans ?_
  refine Eq.trans ?_ (block_rows (φ := .f32) c ((Cert.ReferenceIdeal.Gen.dats m' 0 0).arrAt 4 Cert.ReferenceIdeal.cfg0.N) i j).symm
  refine Eq.trans ?_ ((Cert.ReferenceIdeal.Hand.final m' 0 (ix2 (inner c i) j)).trans (Cert.ReferenceIdeal.Hand.pay_apply _ _ _ _ _ _)).symm
  refine congrArg₂ (fun y z : EReal => y * z) ?_ ?_
  · rw [← sum_inner]
    refine Finset.sum_congr rfl fun e _ => Finset.sum_congr rfl fun k _ => congrArg₂ (fun y z : EReal => y * z) ?_ ?_
    · refine (congrFun (h e).1 (ix2 (Cert.KernelIdeal.Hand.rowIx c i) k)).trans ((block_cols e _ _ k).trans ?_)
      exact congrArg (fun r => m' (((0 : Dev Cert.ReferenceIdeal.nD) : Thread Cert.ReferenceIdeal.nD Cert.ReferenceIdeal.τ).loc Cert.ReferenceIdeal.main_arg0) (ix2 r (inner e k)))
        (Fin.ext (by show 256 * c.val + i.val = c.val * 256 + i.val; omega))
    · exact (congrFun (h e).2.1 (ix2 k j)).trans (block_rows (φ := .fp8e5m2) e _ k j)
  · exact congrArg₂ Scalar.mulf (congrFun (h c).2.2.1 _) (congrFun (h c).2.2.2 _)

end Cert.Match

end
-- ==== Proof.lean ====
/- The claims about the kernel, its reading over exact arithmetic and the reference.

   `Kernel/` and `KernelIdeal/` prove the run of the kernel on all sixteen devices, each for any float
   values.  `KernelIdeal/Partial.lean` and `Final.lean` say what it leaves over exact arithmetic,
   `ReferenceIdeal/Product.lean` what the reference leaves, and `Match.lean` that the one is the
   blocks of the other.  Here the claims are assembled. -/
module

public import proofs.«01_k».proof.Proof.Kernel.Launch
public import proofs.«01_k».proof.Proof.Match
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import Idealize.ShloMosaic.Adequacy
public import Idealize.ShloMosaic.Init

@[expose] public section

noncomputable section

namespace Cert.Proof

open Idealize.ShloMosaic Idealize.SL.Sem Cert.Kernel

/-- With the arguments laid out as blocks, every run of the kernel leaves on each device its block of what every run of the
    reference leaves, and both leave their arguments as they were. -/
theorem algebraic : Cert.algebraic_KernelIdeal_ReferenceIdeal (hKernelIdeal := Cert.KernelIdeal.Gen.facts) (hReferenceIdeal := Cert.ReferenceIdeal.Gen.facts) :=
  fun m g m' g' _ h => ⟨(Cert.ReferenceIdeal.Gen.dats m' 0 0).arrAt 4 Cert.ReferenceIdeal.cfg0.N,
    (θ_run _ _ _).mono (fun _ r c => ⟨(r.1.1 c 4).trans (Cert.Match.kernel_block m g m' h c), r.2.1 c⟩)
      (θ_run_and (Cert.KernelIdeal.Hand.run_main m g) (Cert.KernelIdeal.Hand.frame m g)),
    (θ_run _ _ _).mono (fun _ r => r 0) (Cert.ReferenceIdeal.Value.run_blocks m' g')⟩

/-- The claims: the three frames, the idealisation, and the kernel's results as blocks of the reference's. -/
theorem claim : Cert.Claim := ⟨Cert.Kernel.Gen.facts, Cert.KernelIdeal.Gen.facts, Cert.ReferenceIdeal.Gen.facts,
  fun m g _ => Cert.Kernel.Hand.frame m g,
  fun m g _ => Cert.KernelIdeal.Hand.frame m g,
  fun m g _ => Cert.ReferenceIdeal.Gen.frame m g,
  trivial,
  algebraic⟩

end Cert.Proof

end
